-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S512x4096 : Shape := ⟨2, ![512, 4096]⟩
abbrev S3x1024x2048 : Shape := ⟨3, ![3, 1024, 2048]⟩
abbrev S8x128 : Shape := ⟨2, ![8, 128]⟩
abbrev S8x8x128 : Shape := ⟨3, ![8, 8, 128]⟩
abbrev S8 : Shape := ⟨1, ![8]⟩
abbrev S3 : Shape := ⟨1, ![3]⟩
abbrev S_ : Shape := ⟨0, ![]⟩
abbrev S4 : Shape := ⟨1, ![4]⟩
abbrev S1 : Shape := ⟨1, ![1]⟩
abbrev S512x512 : Shape := ⟨2, ![512, 512]⟩
abbrev S1x512x2048 : Shape := ⟨3, ![1, 512, 2048]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩
abbrev S1x1x1 : Shape := ⟨3, ![1, 1, 1]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S4096x512, .f32⟩
  | .local _ .vmem, ⟨1, _⟩ => ⟨S4096x512, .bf16⟩
  | .local _ .vmem, ⟨2, _⟩ => ⟨S512x4096, .bf16⟩
  | .local _ .vmem, ⟨3, _⟩ => ⟨S3x1024x2048, .f32⟩
  | .local _ .vmem, ⟨4, _⟩ => ⟨S512x8192, .f32⟩
  | .local _ .vmem, ⟨5, _⟩ => ⟨S8x128, .f32⟩
  | .local _ .vmem, ⟨6, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v14 : BitVec 1 := Scalar.cmpi .ne v2 c0_i32
  let v15 : BitVec 32 := Scalar.extui v14
  let c0_i32_6 : BitVec 32 := 0#32
  let v16 : BitVec 1 := Scalar.cmpi .ne v15 c0_i32_6
  v16

def k0_dev1 : Nat :=
  let c0_i32_1035 : BitVec 32 := 0#32
  let c0_i32_1033 : BitVec 32 := 0#32
  let c1_i32_1034 : BitVec 32 := 1#32
  let v1108 : BitVec 32 := Scalar.muli c0_i32_1033 c1_i32_1034
  let v1109 : BitVec 32 := Scalar.addi c0_i32_1035 v1108
  v1109.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v17 : BitVec 1 := Scalar.cmpi .ne v2 c1_i32_7
  let v18 : BitVec 32 := Scalar.extui v17
  let c0_i32_8 : BitVec 32 := 0#32
  let v19 : BitVec 1 := Scalar.cmpi .ne v18 c0_i32_8
  v19

def k0_dev2 : Nat :=
  let c0_i32_1035 : BitVec 32 := 0#32
  let c1_i32_1033 : BitVec 32 := 1#32
  let c1_i32_1034 : BitVec 32 := 1#32
  let v1108 : BitVec 32 := Scalar.muli c1_i32_1033 c1_i32_1034
  let v1109 : BitVec 32 := Scalar.addi c0_i32_1035 v1108
  v1109.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v20 : BitVec 1 := Scalar.cmpi .ne v2 c2_i32
  let v21 : BitVec 32 := Scalar.extui v20
  let c0_i32_9 : BitVec 32 := 0#32
  let v22 : BitVec 1 := Scalar.cmpi .ne v21 c0_i32_9
  v22

def k0_dev3 : Nat :=
  let c0_i32_1035 : BitVec 32 := 0#32
  let c2_i32_1033 : BitVec 32 := 2#32
  let c1_i32_1034 : BitVec 32 := 1#32
  let v1108 : BitVec 32 := Scalar.muli c2_i32_1033 c1_i32_1034
  let v1109 : BitVec 32 := Scalar.addi c0_i32_1035 v1108
  v1109.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v23 : BitVec 1 := Scalar.cmpi .ne v2 c3_i32
  let v24 : BitVec 32 := Scalar.extui v23
  let c0_i32_10 : BitVec 32 := 0#32
  let v25 : BitVec 1 := Scalar.cmpi .ne v24 c0_i32_10
  v25

def k0_dev4 : Nat :=
  let c0_i32_1035 : BitVec 32 := 0#32
  let c3_i32_1033 : BitVec 32 := 3#32
  let c1_i32_1034 : BitVec 32 := 1#32
  let v1108 : BitVec 32 := Scalar.muli c3_i32_1033 c1_i32_1034
  let v1109 : BitVec 32 := Scalar.addi c0_i32_1035 v1108
  v1109.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v26 : BitVec 1 := Scalar.cmpi .ne v2 c4_i32
  let v27 : BitVec 32 := Scalar.extui v26
  let c0_i32_11 : BitVec 32 := 0#32
  let v28 : BitVec 1 := Scalar.cmpi .ne v27 c0_i32_11
  v28

def k0_dev5 : Nat :=
  let c0_i32_1035 : BitVec 32 := 0#32
  let c4_i32_1033 : BitVec 32 := 4#32
  let c1_i32_1034 : BitVec 32 := 1#32
  let v1108 : BitVec 32 := Scalar.muli c4_i32_1033 c1_i32_1034
  let v1109 : BitVec 32 := Scalar.addi c0_i32_1035 v1108
  v1109.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v29 : BitVec 1 := Scalar.cmpi .ne v2 c5_i32
  let v30 : BitVec 32 := Scalar.extui v29
  let c0_i32_12 : BitVec 32 := 0#32
  let v31 : BitVec 1 := Scalar.cmpi .ne v30 c0_i32_12
  v31

def k0_dev6 : Nat :=
  let c0_i32_1035 : BitVec 32 := 0#32
  let c5_i32_1033 : BitVec 32 := 5#32
  let c1_i32_1034 : BitVec 32 := 1#32
  let v1108 : BitVec 32 := Scalar.muli c5_i32_1033 c1_i32_1034
  let v1109 : BitVec 32 := Scalar.addi c0_i32_1035 v1108
  v1109.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v32 : BitVec 1 := Scalar.cmpi .ne v2 c6_i32
  let v33 : BitVec 32 := Scalar.extui v32
  let c0_i32_13 : BitVec 32 := 0#32
  let v34 : BitVec 1 := Scalar.cmpi .ne v33 c0_i32_13
  v34

def k0_dev7 : Nat :=
  let c0_i32_1035 : BitVec 32 := 0#32
  let c6_i32_1033 : BitVec 32 := 6#32
  let c1_i32_1034 : BitVec 32 := 1#32
  let v1108 : BitVec 32 := Scalar.muli c6_i32_1033 c1_i32_1034
  let v1109 : BitVec 32 := Scalar.addi c0_i32_1035 v1108
  v1109.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v35 : BitVec 1 := Scalar.cmpi .ne v2 c7_i32
  let v36 : BitVec 32 := Scalar.extui v35
  let c0_i32_14 : BitVec 32 := 0#32
  let v37 : BitVec 1 := Scalar.cmpi .ne v36 c0_i32_14
  v37

def k0_dev8 : Nat :=
  let c0_i32_1035 : BitVec 32 := 0#32
  let c7_i32_1033 : BitVec 32 := 7#32
  let c1_i32_1034 : BitVec 32 := 1#32
  let v1108 : BitVec 32 := Scalar.muli c7_i32_1033 c1_i32_1034
  let v1109 : BitVec 32 := Scalar.addi c0_i32_1035 v1108
  v1109.toNat
def k0_off1 (d0 : Dev nD) (c7_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.addi v2 c7_i32_16
  let c8_i32_17 : BitVec 32 := 8#32
  let v39 : BitVec 32 := Scalar.remsi v38 c8_i32_17
  let c512_i32 : BitVec 32 := 512#32
  let v40 : BitVec 32 := Scalar.muli v39 c512_i32
  let c0_i32_24 : BitVec 32 := 0#32
  ![v40.toNat, 0]
def k0_dev9 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_16 : BitVec 32 := 7#32
  let v38 : BitVec 32 := Scalar.addi v2 c7_i32_16
  let c8_i32_17 : BitVec 32 := 8#32
  let v39 : BitVec 32 := Scalar.remsi v38 c8_i32_17
  let c1_i32_20 : BitVec 32 := 1#32
  let v41 : BitVec 32 := Scalar.muli v39 c1_i32_20
  let v42 : BitVec 32 := Scalar.addi c0_i32_21 v41
  v42.toNat
def k0_dev10 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_25 : BitVec 32 := 6#32
  let v49 : BitVec 32 := Scalar.addi v2 c6_i32_25
  let c8_i32_26 : BitVec 32 := 8#32
  let v50 : BitVec 32 := Scalar.remsi v49 c8_i32_26
  let c1_i32_30 : BitVec 32 := 1#32
  let v52 : BitVec 32 := Scalar.muli v50 c1_i32_30
  let v53 : BitVec 32 := Scalar.addi c0_i32_31 v52
  v53.toNat
def k0_dev11 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_34 : BitVec 32 := 5#32
  let v60 : BitVec 32 := Scalar.addi v2 c5_i32_34
  let c8_i32_35 : BitVec 32 := 8#32
  let v61 : BitVec 32 := Scalar.remsi v60 c8_i32_35
  let c1_i32_39 : BitVec 32 := 1#32
  let v63 : BitVec 32 := Scalar.muli v61 c1_i32_39
  let v64 : BitVec 32 := Scalar.addi c0_i32_40 v63
  v64.toNat
def k0_dev12 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_43 : BitVec 32 := 4#32
  let v71 : BitVec 32 := Scalar.addi v2 c4_i32_43
  let c8_i32_44 : BitVec 32 := 8#32
  let v72 : BitVec 32 := Scalar.remsi v71 c8_i32_44
  let c1_i32_48 : BitVec 32 := 1#32
  let v74 : BitVec 32 := Scalar.muli v72 c1_i32_48
  let v75 : BitVec 32 := Scalar.addi c0_i32_49 v74
  v75.toNat
def k0_dev13 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v82 : BitVec 32 := Scalar.addi v2 c3_i32_52
  let c8_i32_53 : BitVec 32 := 8#32
  let v83 : BitVec 32 := Scalar.remsi v82 c8_i32_53
  let c1_i32_57 : BitVec 32 := 1#32
  let v85 : BitVec 32 := Scalar.muli v83 c1_i32_57
  let v86 : BitVec 32 := Scalar.addi c0_i32_58 v85
  v86.toNat
def k0_dev14 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v93 : BitVec 32 := Scalar.addi v2 c2_i32_61
  let c8_i32_62 : BitVec 32 := 8#32
  let v94 : BitVec 32 := Scalar.remsi v93 c8_i32_62
  let c1_i32_66 : BitVec 32 := 1#32
  let v96 : BitVec 32 := Scalar.muli v94 c1_i32_66
  let v97 : BitVec 32 := Scalar.addi c0_i32_67 v96
  v97.toNat
def k0_dev15 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v104 : BitVec 32 := Scalar.addi v2 c1_i32_70
  let c8_i32_71 : BitVec 32 := 8#32
  let v105 : BitVec 32 := Scalar.remsi v104 c8_i32_71
  let c1_i32_75 : BitVec 32 := 1#32
  let v107 : BitVec 32 := Scalar.muli v105 c1_i32_75
  let v108 : BitVec 32 := Scalar.addi c0_i32_76 v107
  v108.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_79 : BitVec 32 := 512#32
  let v115 : BitVec 32 := Scalar.muli v2 c512_i32_79
  let c0_i32_82 : BitVec 32 := 0#32
  ![v115.toNat, 0]
def k0_off3 (d0 : Dev nD) (c0_i32_83 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v118 : BitVec 32 := Scalar.addi v2 c0_i32_83
  let c8_i32_84 : BitVec 32 := 8#32
  let v119 : BitVec 32 := Scalar.remsi v118 c8_i32_84
  let c512_i32_85 : BitVec 32 := 512#32
  let v120 : BitVec 32 := Scalar.muli v119 c512_i32_85
  let c0_i32_93 : BitVec 32 := 0#32
  ![v120.toNat, 0]
def k0_off4 (d0 : Dev nD) (c0_i32_99 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v134 : BitVec 32 := Scalar.addi v2 c0_i32_99
  let c8_i32_100 : BitVec 32 := 8#32
  let v135 : BitVec 32 := Scalar.remsi v134 c8_i32_100
  let c512_i32_101 : BitVec 32 := 512#32
  let v136 : BitVec 32 := Scalar.muli v135 c512_i32_101
  let c2048_i32_109 : BitVec 32 := 2048#32
  ![v136.toNat, 2048]
def k0_off5 (d0 : Dev nD) (c0_i32_115 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v150 : BitVec 32 := Scalar.addi v2 c0_i32_115
  let c8_i32_116 : BitVec 32 := 8#32
  let v151 : BitVec 32 := Scalar.remsi v150 c8_i32_116
  let c512_i32_117 : BitVec 32 := 512#32
  let v152 : BitVec 32 := Scalar.muli v151 c512_i32_117
  let c4096_i32 : BitVec 32 := 4096#32
  ![v152.toNat, 4096]
def k0_off6 (d0 : Dev nD) (c0_i32_167 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.addi v2 c0_i32_167
  let c8_i32_168 : BitVec 32 := 8#32
  let v200 : BitVec 32 := Scalar.remsi v199 c8_i32_168
  let c512_i32_169 : BitVec 32 := 512#32
  let v201 : BitVec 32 := Scalar.muli v200 c512_i32_169
  let c6144_i32 : BitVec 32 := 6144#32
  ![v201.toNat, 6144]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_851 : BitVec 32 := 0#32
  let v895 : BitVec 1 := Scalar.cmpi .ne v2 c0_i32_851
  let v896 : BitVec 32 := Scalar.extui v895
  let c0_i32_852 : BitVec 32 := 0#32
  let v897 : BitVec 1 := Scalar.cmpi .ne v896 c0_i32_852
  v897

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1036 : BitVec 32 := 0#32
  let c0_i32_1037 : BitVec 32 := 0#32
  ![v2.toNat, 0, 0]
def k0_dev16 : Nat :=
  let c0_i32_1035 : BitVec 32 := 0#32
  let c0_i32_1033 : BitVec 32 := 0#32
  let c1_i32_1034 : BitVec 32 := 1#32
  let v1108 : BitVec 32 := Scalar.muli c0_i32_1033 c1_i32_1034
  let v1109 : BitVec 32 := Scalar.addi c0_i32_1035 v1108
  v1109.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_853 : BitVec 32 := 1#32
  let v898 : BitVec 1 := Scalar.cmpi .ne v2 c1_i32_853
  let v899 : BitVec 32 := Scalar.extui v898
  let c0_i32_854 : BitVec 32 := 0#32
  let v900 : BitVec 1 := Scalar.cmpi .ne v899 c0_i32_854
  v900

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1036 : BitVec 32 := 0#32
  let c0_i32_1037 : BitVec 32 := 0#32
  ![v2.toNat, 0, 0]
def k0_dev17 : Nat :=
  let c0_i32_1035 : BitVec 32 := 0#32
  let c1_i32_1033 : BitVec 32 := 1#32
  let c1_i32_1034 : BitVec 32 := 1#32
  let v1108 : BitVec 32 := Scalar.muli c1_i32_1033 c1_i32_1034
  let v1109 : BitVec 32 := Scalar.addi c0_i32_1035 v1108
  v1109.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_855 : BitVec 32 := 2#32
  let v901 : BitVec 1 := Scalar.cmpi .ne v2 c2_i32_855
  let v902 : BitVec 32 := Scalar.extui v901
  let c0_i32_856 : BitVec 32 := 0#32
  let v903 : BitVec 1 := Scalar.cmpi .ne v902 c0_i32_856
  v903

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1036 : BitVec 32 := 0#32
  let c0_i32_1037 : BitVec 32 := 0#32
  ![v2.toNat, 0, 0]
def k0_dev18 : Nat :=
  let c0_i32_1035 : BitVec 32 := 0#32
  let c2_i32_1033 : BitVec 32 := 2#32
  let c1_i32_1034 : BitVec 32 := 1#32
  let v1108 : BitVec 32 := Scalar.muli c2_i32_1033 c1_i32_1034
  let v1109 : BitVec 32 := Scalar.addi c0_i32_1035 v1108
  v1109.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_857 : BitVec 32 := 3#32
  let v904 : BitVec 1 := Scalar.cmpi .ne v2 c3_i32_857
  let v905 : BitVec 32 := Scalar.extui v904
  let c0_i32_858 : BitVec 32 := 0#32
  let v906 : BitVec 1 := Scalar.cmpi .ne v905 c0_i32_858
  v906

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1036 : BitVec 32 := 0#32
  let c0_i32_1037 : BitVec 32 := 0#32
  ![v2.toNat, 0, 0]
def k0_dev19 : Nat :=
  let c0_i32_1035 : BitVec 32 := 0#32
  let c3_i32_1033 : BitVec 32 := 3#32
  let c1_i32_1034 : BitVec 32 := 1#32
  let v1108 : BitVec 32 := Scalar.muli c3_i32_1033 c1_i32_1034
  let v1109 : BitVec 32 := Scalar.addi c0_i32_1035 v1108
  v1109.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_859 : BitVec 32 := 4#32
  let v907 : BitVec 1 := Scalar.cmpi .ne v2 c4_i32_859
  let v908 : BitVec 32 := Scalar.extui v907
  let c0_i32_860 : BitVec 32 := 0#32
  let v909 : BitVec 1 := Scalar.cmpi .ne v908 c0_i32_860
  v909

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1036 : BitVec 32 := 0#32
  let c0_i32_1037 : BitVec 32 := 0#32
  ![v2.toNat, 0, 0]
def k0_dev20 : Nat :=
  let c0_i32_1035 : BitVec 32 := 0#32
  let c4_i32_1033 : BitVec 32 := 4#32
  let c1_i32_1034 : BitVec 32 := 1#32
  let v1108 : BitVec 32 := Scalar.muli c4_i32_1033 c1_i32_1034
  let v1109 : BitVec 32 := Scalar.addi c0_i32_1035 v1108
  v1109.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_861 : BitVec 32 := 5#32
  let v910 : BitVec 1 := Scalar.cmpi .ne v2 c5_i32_861
  let v911 : BitVec 32 := Scalar.extui v910
  let c0_i32_862 : BitVec 32 := 0#32
  let v912 : BitVec 1 := Scalar.cmpi .ne v911 c0_i32_862
  v912

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1036 : BitVec 32 := 0#32
  let c0_i32_1037 : BitVec 32 := 0#32
  ![v2.toNat, 0, 0]
def k0_dev21 : Nat :=
  let c0_i32_1035 : BitVec 32 := 0#32
  let c5_i32_1033 : BitVec 32 := 5#32
  let c1_i32_1034 : BitVec 32 := 1#32
  let v1108 : BitVec 32 := Scalar.muli c5_i32_1033 c1_i32_1034
  let v1109 : BitVec 32 := Scalar.addi c0_i32_1035 v1108
  v1109.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_863 : BitVec 32 := 6#32
  let v913 : BitVec 1 := Scalar.cmpi .ne v2 c6_i32_863
  let v914 : BitVec 32 := Scalar.extui v913
  let c0_i32_864 : BitVec 32 := 0#32
  let v915 : BitVec 1 := Scalar.cmpi .ne v914 c0_i32_864
  v915

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1036 : BitVec 32 := 0#32
  let c0_i32_1037 : BitVec 32 := 0#32
  ![v2.toNat, 0, 0]
def k0_dev22 : Nat :=
  let c0_i32_1035 : BitVec 32 := 0#32
  let c6_i32_1033 : BitVec 32 := 6#32
  let c1_i32_1034 : BitVec 32 := 1#32
  let v1108 : BitVec 32 := Scalar.muli c6_i32_1033 c1_i32_1034
  let v1109 : BitVec 32 := Scalar.addi c0_i32_1035 v1108
  v1109.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_865 : BitVec 32 := 7#32
  let v916 : BitVec 1 := Scalar.cmpi .ne v2 c7_i32_865
  let v917 : BitVec 32 := Scalar.extui v916
  let c0_i32_866 : BitVec 32 := 0#32
  let v918 : BitVec 1 := Scalar.cmpi .ne v917 c0_i32_866
  v918

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1036 : BitVec 32 := 0#32
  let c0_i32_1037 : BitVec 32 := 0#32
  ![v2.toNat, 0, 0]
def k0_dev23 : Nat :=
  let c0_i32_1035 : BitVec 32 := 0#32
  let c7_i32_1033 : BitVec 32 := 7#32
  let c1_i32_1034 : BitVec 32 := 1#32
  let v1108 : BitVec 32 := Scalar.muli c7_i32_1033 c1_i32_1034
  let v1109 : BitVec 32 := Scalar.addi c0_i32_1035 v1108
  v1109.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1016 : BitVec 32 := 0#32
  let v1084 : BitVec 1 := Scalar.cmpi .ne v2 c0_i32_1016
  let v1085 : BitVec 32 := Scalar.extui v1084
  let c0_i32_1017 : BitVec 32 := 0#32
  let v1086 : BitVec 1 := Scalar.cmpi .ne v1085 c0_i32_1017
  v1086

def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1035 : BitVec 32 := 0#32
  let c0_i32_1036 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1018 : BitVec 32 := 1#32
  let v1087 : BitVec 1 := Scalar.cmpi .ne v2 c1_i32_1018
  let v1088 : BitVec 32 := Scalar.extui v1087
  let c0_i32_1019 : BitVec 32 := 0#32
  let v1089 : BitVec 1 := Scalar.cmpi .ne v1088 c0_i32_1019
  v1089

def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1035 : BitVec 32 := 0#32
  let c0_i32_1036 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1020 : BitVec 32 := 2#32
  let v1090 : BitVec 1 := Scalar.cmpi .ne v2 c2_i32_1020
  let v1091 : BitVec 32 := Scalar.extui v1090
  let c0_i32_1021 : BitVec 32 := 0#32
  let v1092 : BitVec 1 := Scalar.cmpi .ne v1091 c0_i32_1021
  v1092

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1035 : BitVec 32 := 0#32
  let c0_i32_1036 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1022 : BitVec 32 := 3#32
  let v1093 : BitVec 1 := Scalar.cmpi .ne v2 c3_i32_1022
  let v1094 : BitVec 32 := Scalar.extui v1093
  let c0_i32_1023 : BitVec 32 := 0#32
  let v1095 : BitVec 1 := Scalar.cmpi .ne v1094 c0_i32_1023
  v1095

def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1035 : BitVec 32 := 0#32
  let c0_i32_1036 : BitVec 32 := 0#32
  ![v2.toNat, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1024 : BitVec 32 := 4#32
  let v1096 : BitVec 1 := Scalar.cmpi .ne v2 c4_i32_1024
  let v1097 : BitVec 32 := Scalar.extui v1096
  let c0_i32_1025 : BitVec 32 := 0#32
  let v1098 : BitVec 1 := Scalar.cmpi .ne v1097 c0_i32_1025
  v1098

def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1035 : BitVec 32 := 0#32
  let c0_i32_1036 : BitVec 32 := 0#32
  ![v2.toNat, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1026 : BitVec 32 := 5#32
  let v1099 : BitVec 1 := Scalar.cmpi .ne v2 c5_i32_1026
  let v1100 : BitVec 32 := Scalar.extui v1099
  let c0_i32_1027 : BitVec 32 := 0#32
  let v1101 : BitVec 1 := Scalar.cmpi .ne v1100 c0_i32_1027
  v1101

def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1035 : BitVec 32 := 0#32
  let c0_i32_1036 : BitVec 32 := 0#32
  ![v2.toNat, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1028 : BitVec 32 := 6#32
  let v1102 : BitVec 1 := Scalar.cmpi .ne v2 c6_i32_1028
  let v1103 : BitVec 32 := Scalar.extui v1102
  let c0_i32_1029 : BitVec 32 := 0#32
  let v1104 : BitVec 1 := Scalar.cmpi .ne v1103 c0_i32_1029
  v1104

def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1035 : BitVec 32 := 0#32
  let c0_i32_1036 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1030 : BitVec 32 := 7#32
  let v1105 : BitVec 1 := Scalar.cmpi .ne v2 c7_i32_1030
  let v1106 : BitVec 32 := Scalar.extui v1105
  let c0_i32_1031 : BitVec 32 := 0#32
  let v1107 : BitVec 1 := Scalar.cmpi .ne v1106 c0_i32_1031
  v1107

def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1035 : BitVec 32 := 0#32
  let c0_i32_1036 : BitVec 32 := 0#32
  ![v2.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Proto.lean ====
/-
# The kernel's protocol between the eight devices

Every device `c` owns a column block of `x` (4096 x 512) and the whole of `w`.

* Entry barrier: `c` signals the barrier semaphore of each of the other seven devices and waits for seven signals on its
  own. `c`'s signal to `d` hands over the places `d` writes on `c`: column block `d - c` of `c`'s gathered buffer and row
  `d` of its buffer of maxima.
* All to all: for `s = 1, …, 7` device `c` sends row block `c - s` of its rounded `x` to device `c - s`, where it lands in
  column block `s`; so column block `s` of `c` comes from device `c + s`.
* Products: `c` multiplies its gathered row block (its columns in the order `c, c + 1, …`) with the matching row blocks of
  `w`, streamed from memory through three slots, and keeps the running sums in its accumulator.
* Maxima: `c` sends the largest absolute value of its rows to every other device, into row `c` of that device's buffer.
* `c` quantises its rows with the largest of the eight maxima and copies them out.

Levels: staging, weights, local, output and send semaphores 0, barrier 1, arrival of `x` blocks 2, arrival of maxima 3.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Batch
public import Idealize.ShloMosaic.Lib.Pointwise.Index

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's, the protocol's (duties named by devices), the local transfers' counters -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's algebra inside the certificate's. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The counters of the local transfers inside the certificate's algebra. -/
abbrev EC : UEmb Counters (MT nD τ sig Unit (Elt F) ℕ UU ℕ) := countersEmb

omit [FloatOps F] in
instance ER_landsIn : (ER (F := F)).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The memrefs and cells -/

abbrev xM : Memref sig .tc .vmem S4096x512 .f32 := Memref.whole cc0_stg0_0
abbrev wM : Memref sig .tc .hbm S4096x8192 .f32 := Memref.whole main_arg1
abbrev oM : Memref sig .tc .hbm S512x8192 .f32 := Memref.whole main_v1
abbrev hM : Memref sig .tc .vmem S4096x512 .bf16 := Memref.whole cc0_scratch0
abbrev gM : Memref sig .tc .vmem S512x4096 .bf16 := Memref.whole cc0_scratch1
abbrev bM : Memref sig .tc .vmem S3x1024x2048 .f32 := Memref.whole cc0_scratch2
abbrev aM : Memref sig .tc .vmem S512x8192 .f32 := Memref.whole cc0_scratch3
abbrev eM : Memref sig .tc .vmem S8x128 .f32 := Memref.whole cc0_scratch4
abbrev rM : Memref sig .tc .vmem S8x8x128 .f32 := Memref.whole cc0_scratch5

/-- The barrier semaphore. -/
abbrev barS : Sem sig := (SemArray.scalar (sig.barrier 0 rfl) : Sems sig S_).sem
/-- Semaphore `i` of array `a`: 0 sends of `x` blocks, 1 their arrivals, 2 sends of maxima, 3 their arrivals. -/
def dsem (a : Fin 4) (i : Fin 8) : DmaSem sig := ⟨1 + 8 * a.val + i.val, by
  have := a.isLt; have := i.isLt; show _ < 41; omega⟩

/-- Weight slot `s`'s semaphore. -/
def wsem (s : Fin 3) : DmaSem sig := ⟨33 + s.val, by have := s.isLt; show _ < 41; omega⟩
def lsem : DmaSem sig := ⟨36, by show _ < 41; omega⟩
/-- Output column block `k`'s semaphore. -/
def osm (k : Fin 4) : DmaSem sig := ⟨37 + k.val, by have := k.isLt; show _ < 41; omega⟩

abbrev barCell (c : Dev nD) : GSem nD τ sig := ((c : Thread nD τ), .reg barS)
abbrev dCell (c : Dev nD) (a : Fin 4) (i : Fin 8) : GSem nD τ sig := ((c : Thread nD τ), .dma (dsem a i))

/-- The cells of the protocol: per device the barrier and the four arrays of eight. -/
abbrev Key : Type := Dev nD × Option (Fin 4 × Fin 8)
abbrev csem : Option (Fin 4 × Fin 8) → SemLoc sig := fun | none => .reg barS | some (a, i) => .dma (dsem a i)
abbrev kcell (ck : Key) : GSem nD τ sig := ((ck.1 : Thread nD τ), csem ck.2)

/-! ## The parts of the buffers -/

/-- Row block `k` of the rounded `x`. -/
def rX (k : Fin 8) : Rect S4096x512 := Rect.unit ![512 * k.val, 0] S512x512.size (by revert k; decide)
/-- Column block `t` of the gathered buffer. -/
def rG (t : Fin 8) : Rect S512x4096 := Rect.unit ![0, 512 * t.val] S512x512.size (by revert t; decide)
/-- Row block `k`, column block `q` of the weights. -/
def rW (k : Fin 8) (q : Fin 4) : Rect S4096x8192 := Rect.unit ![512 * k.val, 2048 * q.val] S512x2048.size (by revert k q; decide)
/-- Half `u` of weight slot `s`. -/
def rB (s : Fin 3) (u : Fin 2) : Rect S3x1024x2048 := Rect.unit ![s.val, 512 * u.val, 0] S1x512x2048.size (by revert s u; decide)
/-- Column block `q` of the accumulator and of the result. -/
def rA (q : Fin 4) : Rect S512x8192 := Rect.unit ![0, 2048 * q.val] S512x2048.size (by revert q; decide)
/-- Row `k` of the maxima. -/
def rR (k : Fin 8) : Rect S8x8x128 := Rect.unit ![k.val, 0, 0] S1x8x128.size (by revert k; decide)

abbrev NX : ℕ := (gM.slice (rG 0) (fun _ => rfl)).view.dmaCredit
abbrev NA : ℕ := eM.view.dmaCredit
theorem NX_pos : 0 < NX := View.dmaCredit_pos _ (by decide)
theorem NA_pos : 0 < NA := View.dmaCredit_pos _ (by decide)

/-! ## The contents -/

/-- Device `c`'s block of `x` as staged. -/
def Xt (c : Dev nD) : (cc0_stg0_0 : Ref sig .tc).ty.Contents (Elt F) :=
  (win0_0.blk (0 : Fin 1)).view.read (Elt F) ((s₀ m ρ).mem ((c : Thread nD τ).loc main_arg0))

/-- Device `c`'s copy of the weights. -/
def Wt (c : Dev nD) : (main_arg1 : Ref sig .tc).ty.Contents (Elt F) := m ((c : Thread nD τ).loc main_arg1)

/-- The rounded `x` of device `c`. -/
def Xs (c : Dev nD) : (cc0_scratch0 : Ref sig .tc).ty.Contents (Elt F) := k0_pay2 (Xt m ρ c)

/-- The gathered buffer of device `c`: column block `t` holds row block `c` of device `c + t`'s rounded `x`. -/
def Ga (c : Dev nD) : (cc0_scratch1 : Ref sig .tc).ty.Contents (Elt F) := fun i : S512x4096.Idx =>
  Xs m ρ (⟨(c.val + (i 1).val / 512) % 8, Nat.mod_lt _ (by decide)⟩ : Fin 8)
    (ix2 (⟨(512 * c.val + (i 0).val) % 4096, Nat.mod_lt _ (by decide)⟩ : Fin 4096)
      (⟨(i 1).val % 512, Nat.mod_lt _ (by decide)⟩ : Fin 512))

/-- A weight slot's contents at the step for column block `q` whose halves are the row blocks `c + t` and `c + t + 1`. -/
def Wb (c : Dev nD) (t : ℕ) (q : Fin 4) : (cc0_scratch2 : Ref sig .tc).ty.Contents (Elt F) := fun i : S3x1024x2048.Idx =>
  Wt m c (ix2 (⟨(512 * ((c.val + t + (i 1).val / 512) % 8) + (i 1).val % 512) % 4096, Nat.mod_lt _ (by decide)⟩ : Fin 4096)
      (⟨(2048 * q.val + (i 2).val) % 8192, Nat.mod_lt _ (by decide)⟩ : Fin 8192))

/-- Columns `1024 g, …` of the gathered buffer: what a product over two row blocks of weights reads. -/
def gTwo (c : Dev nD) (g : ℕ) : Vec F S512x1024 .bf16 := fun i =>
  Ga m ρ c (ix2 (i 0 : Fin 512) (⟨(1024 * g + (i 1).val) % 4096, Nat.mod_lt _ (by decide)⟩ : Fin 4096))
/-- Columns `512 t, …` of the gathered buffer: what a product over one row block reads. -/
def gOne (c : Dev nD) (t : ℕ) : Vec F S512x512 .bf16 := fun i =>
  Ga m ρ c (ix2 (i 0 : Fin 512) (⟨(512 * t + (i 1).val) % 4096, Nat.mod_lt _ (by decide)⟩ : Fin 4096))
/-- The two row blocks of weights in a slot, as loaded. -/
def wTwo (c : Dev nD) (t : ℕ) (q : Fin 4) : Vec F S1x1024x2048 .f32 := fun i =>
  Wb m c t q (ix3 (0 : Fin 3) (i 1 : Fin 1024) (i 2 : Fin 2048))
/-- The one row block of weights in a slot's first half, as loaded. -/
def wOne (c : Dev nD) (t : ℕ) (q : Fin 4) : Vec F S1x512x2048 .f32 := fun i =>
  Wb m c t q (ix3 (0 : Fin 3) (⟨(i 1).val % 1024, Nat.mod_lt _ (by decide)⟩ : Fin 1024) (i 2 : Fin 2048))

/-- Column block `q` of the accumulator after group `n` of the products: groups 0, 1, 2 take two row blocks each, groups 3
    and 4 one. -/
def av (c : Dev nD) (q : Fin 4) : ℕ → Vec F S512x2048 .f32
  | 0 => k0_pay3 (gTwo m ρ c 0) (wTwo m c 0 q)
  | n + 1 => match n with
    | 0 => k0_pay9 (gTwo m ρ c 1) (wTwo m c 2 q) (av c q n)
    | 1 => k0_pay9 (gTwo m ρ c 2) (wTwo m c 4 q) (av c q n)
    | 2 => k0_pay19 (gOne m ρ c 6) (wOne m c 6 q) (av c q n)
    | _ => k0_pay25 (gOne m ρ c 7) (wOne m c 7 q) (av c q n)

/-- The running largest absolute value after column block `q` of the last group. -/
def mx0 (c : Dev nD) : F .f32 := k0_pay24 (gOne m ρ c 7) (wOne m c 7 0) (av m ρ c 0 3)
def mx1 (c : Dev nD) : F .f32 := k0_pay27 (mx0 m ρ c) (gOne m ρ c 7) (wOne m c 7 1) (av m ρ c 1 3)
def mx2 (c : Dev nD) : F .f32 := k0_pay30 (mx1 m ρ c) (gOne m ρ c 7) (wOne m c 7 2) (av m ρ c 2 3)
def mx3 (c : Dev nD) : F .f32 := k0_pay33 (mx2 m ρ c) (gOne m ρ c 7) (wOne m c 7 3) (av m ρ c 3 3)

/-- The buffer device `c` sends its maximum from. -/
def As (c : Dev nD) : (cc0_scratch4 : Ref sig .tc).ty.Contents (Elt F) :=
  k0_pay35 (mx2 m ρ c) (gOne m ρ c 7) (wOne m c 7 3) (av m ρ c 3 3)

/-- The maxima on device `c` once all have arrived: row `k` device `k`'s, its own row zero. -/
def Ar (c : Dev nD) : (cc0_scratch5 : Ref sig .tc).ty.Contents (Elt F) := fun i : S8x8x128.Idx =>
  if (i 0).val = c.val then k0_pay1 i else As m ρ (i 0 : Fin 8) (ix2 (i 1 : Fin 8) (i 2 : Fin 128))

/-- Contents of the accumulator (or the result) from one value per column block. -/
def colBlocks (v : Fin 4 → Vec F S512x2048 .f32) : S512x8192.Idx → Elt F .f32 := fun i =>
  v (⟨(i 1).val / 2048 % 4, Nat.mod_lt _ (by decide)⟩ : Fin 4)
    (ix2 (i 0 : Fin 512) (⟨(i 1).val % 2048, Nat.mod_lt _ (by decide)⟩ : Fin 2048))

/-- The accumulator after group `n`. -/
def Av (c : Dev nD) (n : ℕ) : (cc0_scratch3 : Ref sig .tc).ty.Contents (Elt F) := colBlocks fun q => av m ρ c q n

/-- Column block `q` of device `c`'s result. -/
def ov (c : Dev nD) (q : Fin 4) : Vec F S512x2048 .f32 := k0_pay39 (mx3 m ρ c) (Ar m ρ c) (av m ρ c q 4)

/-- Device `c`'s result. -/
def Ov (c : Dev nD) : (main_v1 : Ref sig .tc).ty.Contents (Elt F) := colBlocks (ov m ρ c)

/-! ## Parts of buffers owned -/

/-- The elements `S` of buffer `b` on device `c`, at share `q` and contents `f`. -/
abbrev pts (c : Dev nD) (b : Ref sig .tc) (S : Finset b.ty.Idx) (q : PosShare TreeShare) (f : b.ty.Contents (Elt F)) : sProp 𝕄 :=
  ((c : Thread nD τ).loc b) ↦[S]{q} f

/-! ## The schedule -/

/-- The share of the maximum's buffer that goes with the send to device `j`. -/
def eShare (j : Fin 8) : PosShare TreeShare := Transfers.shareTok fullShare 8 j

/-- What device `p`'s barrier signal to `c` hands over. -/
def barPay (c p : Fin 8) : sProp 𝕄 :=
  iprop((∃ f, pts p cc0_scratch1 (rG (c - p)).set fullShare f) ∗ ∃ f, pts p cc0_scratch5 (rR c).set fullShare f)

/-- What completing the transfer of semaphore `(a, i)` hands device `c`. -/
def dmaPay (c : Fin 8) (a : Fin 4) (i : Fin 8) : sProp 𝕄 := match a with
  | 0 => pts c cc0_scratch0 (rX (c - i)).set fullShare (Xs m ρ c)
  | 1 => pts c cc0_scratch1 (rG i).set fullShare (Ga m ρ c)
  | 2 => pts c cc0_scratch4 Finset.univ (eShare i) (As m ρ c)
  | 3 => pts c cc0_scratch5 (rR i).set fullShare (Ar m ρ c)

omit [FloatOps F] in
instance barPay_storable (c p : Fin 8) : BI.Storable (upEmb : UEmb _ 𝕄) (barPay (F := F) c p) := by unfold barPay; infer_instance
instance dmaPay_storable (c : Fin 8) (a : Fin 4) (i : Fin 8) : BI.Storable (upEmb : UEmb _ 𝕄) (dmaPay (F := F) m ρ c a i) := by
  unfold dmaPay; split <;> infer_instance

/-- The array and index of a protocol semaphore. -/
def arrOf (n : ℕ) : Fin 4 := ⟨(n - 1) / 8 % 4, Nat.mod_lt _ (by decide)⟩
def idxOf (n : ℕ) : Fin 8 := ⟨(n - 1) % 8, Nat.mod_lt _ (by decide)⟩
theorem arrOf_dsem (a : Fin 4) (i : Fin 8) : arrOf (dsem a i).val = a := by revert a i; decide
theorem idxOf_dsem (a : Fin 4) (i : Fin 8) : idxOf (dsem a i).val = i := by revert a i; decide

/-- Semaphore `(a, i)` of device `c` is used: blocks of `x` go to and come from others (`i ≠ 0`), maxima too (`i ≠ c`). -/
def Live (c : Fin 8) (a : Fin 4) (i : Fin 8) : Prop := if a.val < 2 then i ≠ 0 else i ≠ c
instance (c : Fin 8) (a : Fin 4) (i : Fin 8) : Decidable (Live c a i) := by unfold Live; infer_instance

/-- One round: a barrier cell has a duty of one unit per other device, a used transfer cell the duty 0 of its credit. -/
def Rd : Rounds.Schedule (GSem nD τ sig) (Fin 8) 𝕄 where
  duties g r := if r = 0 ∧ g.1.2 = .tc then (match g.2 with
    | .reg _ => Finset.univ.erase (g.1.1 : Fin 8)
    | .dma n => if Live g.1.1 (arrOf n.val) (idxOf n.val) then {0} else ∅) else ∅
  unitless _ := False
  amount g _ _ := match g.2 with | .reg _ => 1 | .dma n => if (arrOf n.val).val < 2 then NX else NA
  payload g _ d := match g.2 with
    | .reg _ => barPay g.1.1 d
    | .dma n => dmaPay m ρ g.1.1 (arrOf n.val) (idxOf n.val)
  amount_pos g _ _ _ := by
    cases g.2 with
    | reg _ => exact Nat.one_pos
    | dma n => dsimp only; split <;> first | exact NX_pos | exact NA_pos

instance Rd_payload_storable (g : GSem nD τ sig) (r : ℕ) (d : Fin 8) : BI.Storable (upEmb : UEmb _ 𝕄) ((Rd (F := F) m ρ).payload g r d) := by
  show BI.Storable upEmb (match g.2 with | .reg _ => barPay g.1.1 d | .dma n => dmaPay m ρ g.1.1 (arrOf n.val) (idxOf n.val))
  cases g.2 <;> infer_instance

section Sched
variable (c : Dev nD)

theorem duties_bar : (Rd (F := F) m ρ).duties (barCell c) 0 = Finset.univ.erase (c : Fin 8) := by dsimp only [Rd]; exact if_pos ⟨rfl, rfl⟩
theorem duties_dma (a : Fin 4) (i : Fin 8) : (Rd (F := F) m ρ).duties (dCell c a i) 0 = if Live c a i then {0} else ∅ := by
  dsimp only [Rd]; rw [if_pos ⟨rfl, rfl⟩, arrOf_dsem, idxOf_dsem]
theorem duties_live {a : Fin 4} {i : Fin 8} (h : Live c a i) : (Rd (F := F) m ρ).duties (dCell c a i) 0 = {0} := by
  rw [duties_dma, if_pos h]
theorem duties_later (g : GSem nD τ sig) : ∀ r, 1 ≤ r → (Rd (F := F) m ρ).duties g r = ∅ :=
  fun r hr => by dsimp only [Rd]; exact if_neg fun h => by omega
theorem duties_idle {a : Fin 4} {i : Fin 8} (h : ¬ Live c a i) : ∀ r, 0 ≤ r → (Rd (F := F) m ρ).duties (dCell c a i) r = ∅ :=
  fun r _ => by
    rcases Nat.eq_zero_or_pos r with rfl | hr
    · rw [duties_dma, if_neg h]
    · exact duties_later m ρ _ r hr

theorem amount_bar (d : Fin 8) : (Rd (F := F) m ρ).amount (barCell c) 0 d = 1 := rfl
theorem amount_x {a : Fin 4} (ha : a.val < 2) (i d : Fin 8) : (Rd (F := F) m ρ).amount (dCell c a i) 0 d = NX := by
  dsimp only [Rd]; rw [arrOf_dsem, if_pos ha]
theorem amount_e {a : Fin 4} (ha : ¬ a.val < 2) (i d : Fin 8) : (Rd (F := F) m ρ).amount (dCell c a i) 0 d = NA := by
  dsimp only [Rd]; rw [arrOf_dsem, if_neg ha]

theorem expect_bar : (Rd (F := F) m ρ).expect (barCell c) 0 = 7 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
theorem expect_dma {a : Fin 4} {i : Fin 8} (h : Live c a i) (n : ℕ) (hn : (Rd (F := F) m ρ).amount (dCell c a i) 0 0 = n) :
    (Rd (F := F) m ρ).expect (dCell c a i) 0 = n := by
  unfold Schedule.expect Schedule.amountOf; rw [duties_live m ρ c h, Finset.sum_singleton, hn]

theorem payload_bar (d : Fin 8) : (Rd (F := F) m ρ).payload (barCell c) 0 d = barPay c d := rfl
theorem payload_dma (a : Fin 4) (i d : Fin 8) : (Rd (F := F) m ρ).payload (dCell c a i) 0 d = dmaPay m ρ c a i := by
  dsimp only [Rd]; rw [arrOf_dsem, idxOf_dsem]

theorem rest_bar : bigSep ((Rd (F := F) m ρ).duties (barCell c) 0 \ ∅) (fun d => (Rd (F := F) m ρ).payload (barCell c) 0 d)
    = bigSep (Finset.univ.erase (c : Fin 8)) fun p => barPay c p := by
  rw [Finset.sdiff_empty, duties_bar]; rfl
theorem rest_dma {a : Fin 4} {i : Fin 8} (h : Live c a i) :
    bigSep ((Rd (F := F) m ρ).duties (dCell c a i) 0 \ ∅) (fun d => (Rd (F := F) m ρ).payload (dCell c a i) 0 d) = dmaPay m ρ c a i := by
  rw [Finset.sdiff_empty, duties_live m ρ c h, bigSep_singleton, payload_dma]

end Sched

/-! ## What each device owes at launch; the levels -/

/-- What `c` owes in maxima once those to the devices below `8 - k` are sent. -/
def OA (c : Fin 8) : ℕ → CellTallies nD τ sig Unit
  | 0 => 0
  | k + 1 => OA c k + (if Fin.ofNat 8 (7 - k) = c then 0 else tallyAt (dCell (Fin.ofNat 8 (7 - k)) 3 c) () NA)
/-- The same, and in blocks of `x` once those for `s < 8 - k` are sent. -/
def OX (c : Fin 8) : ℕ → CellTallies nD τ sig Unit
  | 0 => OA c 8
  | k + 1 => OX c k + tallyAt (dCell (c - Fin.ofNat 8 (7 - k)) 1 (Fin.ofNat 8 (7 - k))) () NX
/-- The same, and in barrier signals once those to the devices below `8 - k` are given. -/
def OB (c : Fin 8) : ℕ → CellTallies nD τ sig Unit
  | 0 => OX c 7
  | k + 1 => OB c k + (if Fin.ofNat 8 (7 - k) = c then 0 else tallyAt (barCell (Fin.ofNat 8 (7 - k))) () 1)
/-- What `c` owes at launch. -/
def O₀ (c : Dev nD) : CellTallies nD τ sig Unit := OB c 8

def L (g : GSem nD τ sig) : Finset Unit := if g.1.2 = .tc then {()} else ∅
def lv (g : GSem nD τ sig) (_ : Unit) : ℕ := match g.2 with
  | .reg _ => 1
  | .dma n => if 9 ≤ n.val ∧ n.val ≤ 16 then 2 else if 25 ≤ n.val ∧ n.val ≤ 32 then 3 else 0

theorem L_of_ne (g : GSem nD τ sig) (h : g.1.2 ≠ .tc) : L g = ∅ := if_neg h
theorem L_tc (c : Dev nD) (sm : SemLoc sig) : L ((c : Thread nD τ), sm) = {()} := if_pos rfl

/-- Every cell owed in `O` is a TensorCore's, above level `n`. -/
def Above (n : ℕ) (O : CellTallies nD τ sig Unit) : Prop := ∀ (g : GSem nD τ sig) (u : Unit), 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem Above.tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
theorem Above.ite {n : ℕ} {p : Prop} [Decidable p] {O : CellTallies nD τ sig Unit} (h : Above n O) : Above n (if p then 0 else O) := by
  split
  · exact Above.zero n
  · exact h

theorem lv_arr (c : Dev nD) (a : Fin 4) (i : Fin 8) : lv (dCell c a i) () = ![0, 2, 0, 3] a := by revert c a i; decide

theorem OA_above (c : Fin 8) (k : ℕ) : Above 2 (OA c k) := by
  induction k with
  | zero => exact Above.zero 2
  | succ k ih => exact ih.add (Above.ite (Above.tally _ _ _ (by rw [lv_arr]; decide)))
theorem OX_above (c : Fin 8) (k : ℕ) : Above 1 (OX c k) := by
  induction k with
  | zero => exact fun g u h => ⟨(OA_above c 8 g u h).1, (by decide : 1 < 2).trans (OA_above c 8 g u h).2⟩
  | succ k ih => exact ih.add (Above.tally _ _ _ (by rw [lv_arr]; decide))
theorem OB_above (c : Fin 8) (k : ℕ) : Above 0 (OB c k) := by
  induction k with
  | zero => exact fun g u h => ⟨(OX_above c 7 g u h).1, (by decide : 0 < 1).trans (OX_above c 7 g u h).2⟩
  | succ k ih => exact ih.add (Above.ite (Above.tally _ _ _ (by show 0 < 1; decide)))

omit [FloatOps F] in
/-- A semaphore at level at most `n` may be waited on owing only what lies above. -/
theorem mayWait_above (c : Dev nD) (sm : SemLoc sig) {n : ℕ} (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## The records every device holds: all the cells' invariants, all at round 0 -/

def Recs (K : Key → ℕ) : sProp 𝕄 :=
  iprop((bigSep Finset.univ fun ck : Key => cellInv ER (Rd m ρ) (K ck) (kcell ck)) ∗ bigSep Finset.univ fun ck : Key => reached ER (kcell ck) 0)

instance Recs_persistent (K : Key → ℕ) : BI.Persistent (Recs (F := F) m ρ K) := by unfold Recs; infer_instance

theorem Recs_at (K : Key → ℕ) (ck : Key) : Recs (F := F) m ρ K ⊢ iprop(cellInv ER (Rd m ρ) (K ck) (kcell ck) ∗ reached ER (kcell ck) 0) := by
  unfold Recs
  exact BIClass.sep_mono (bigSep_elim (Finset.mem_univ ck)) (bigSep_elim (Finset.mem_univ ck))

end Cert.Proof

end
-- ==== Proof.Steps.lean ====
/-
# One rule per kind of step of the kernel

Each theorem carries the resources of one kind of effect over it: the copies of the weights and their waits, the loads of
products' operands, the sends between devices and their waits.
-/
module

public import proofs.«01_k».proof.Proof.Proto

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents through views -/

theorem sub_val (c s : Fin 8) : (c - s).val = (c.val + 8 - s.val) % 8 := by revert c s; decide
theorem add_val (c s : Fin 8) : (c + s).val = (c.val + s.val) % 8 := by revert c s; decide

theorem fin_ext_app {n : ℕ} {A B : Type} (f : Fin n → A → B) {i j : Fin n} {a b : A} (h : i.val = j.val) (h' : a = b) : f i a = f j b := by
  rw [Fin.ext h, h']

theorem ix2_ext {a b : ℕ} {x x' : Fin a} {y y' : Fin b} (h : x.val = x'.val) (h' : y.val = y'.val) : ix2 x y = ix2 x' y' := by
  rw [Fin.ext h, Fin.ext h']

theorem emb2 {a b a' b' : ℕ} (o : Fin 2 → ℕ) (h) (x : (⟨2, ![a', b']⟩ : Shape).Idx) (h0 : o 0 + (x 0).val < a) (h1 : o 1 + (x 1).val < b) :
    (Rect.unit (s := ⟨2, ![a, b]⟩) o (⟨2, ![a', b']⟩ : Shape).size h).emb x = ix2 (⟨o 0 + (x 0).val, h0⟩ : Fin a) (⟨o 1 + (x 1).val, h1⟩ : Fin b) := by
  funext d
  apply Fin.ext
  rw [Rect.emb_apply]
  fin_cases d
  · show o 0 + 1 * (x 0).val = _; rw [Nat.one_mul]; rfl
  · show o 1 + 1 * (x 1).val = _; rw [Nat.one_mul]; rfl

theorem emb3 {a b d a' b' d' : ℕ} (o : Fin 3 → ℕ) (h) (x : (⟨3, ![a', b', d']⟩ : Shape).Idx) (h0 : o 0 + (x 0).val < a) (h1 : o 1 + (x 1).val < b)
    (h2 : o 2 + (x 2).val < d) :
    (Rect.unit (s := ⟨3, ![a, b, d]⟩) o (⟨3, ![a', b', d']⟩ : Shape).size h).emb x
      = ix3 (⟨o 0 + (x 0).val, h0⟩ : Fin a) (⟨o 1 + (x 1).val, h1⟩ : Fin b) (⟨o 2 + (x 2).val, h2⟩ : Fin d) := by
  funext k
  apply Fin.ext
  rw [Rect.emb_apply]
  fin_cases k
  · show o 0 + 1 * (x 0).val = _; rw [Nat.one_mul]; rfl
  · show o 1 + 1 * (x 1).val = _; rw [Nat.one_mul]; rfl
  · show o 2 + 1 * (x 2).val = _; rw [Nat.one_mul]; rfl

/-- Adding a leading unit axis to an index. -/
theorem unsqueeze {a b : ℕ} (h : (⟨2, ![a, b]⟩ : Shape).numel = (⟨3, ![1, a, b]⟩ : Shape).numel) (x : (⟨2, ![a, b]⟩ : Shape).Idx) :
    (Shape.reshapeEquiv h x : (⟨3, ![1, a, b]⟩ : Shape).Idx) = ix3 (0 : Fin 1) (x 0 : Fin a) (x 1 : Fin b) := by
  refine Shape.reshapeEquiv_eq_of_rowMajor (s' := ⟨2, ![a, b]⟩) (s := ⟨3, ![1, a, b]⟩) h ?_
  refine (Shape.rowMajor_val_three (d := ![1, a, b]) _).trans (Eq.trans ?_ (Shape.rowMajor_val_two (d := ![a, b]) x).symm)
  show ((0 : ℕ) * a + (x 0).val) * b + (x 1).val = (x 0).val * b + (x 1).val
  rw [Nat.zero_mul, Nat.zero_add]

/-- The embedding of one plane of a rank-3 array, squeezed. -/
theorem emb_plane {n a b a' b' : ℕ} (o : Fin 3 → ℕ) (h) (hn : (⟨2, ![a', b']⟩ : Shape).numel = (⟨3, ![1, a', b']⟩ : Shape).numel)
    (x : (⟨2, ![a', b']⟩ : Shape).Idx) (h0 : o 0 + 0 < n) (h1 : o 1 + (x 0).val < a) (h2 : o 2 + (x 1).val < b) :
    (Rect.unit (s := ⟨3, ![n, a, b]⟩) o (⟨3, ![1, a', b']⟩ : Shape).size h).emb (Shape.reshapeEquiv hn x)
      = ix3 (⟨o 0 + 0, h0⟩ : Fin n) (⟨o 1 + (x 0).val, h1⟩ : Fin a) (⟨o 2 + (x 1).val, h2⟩ : Fin b) := by
  rw [unsqueeze]
  exact emb3 o h _ h0 h1 h2

/-- What a transfer writes is the contents its destination's reading agrees with. -/
theorem landed_congr (c : Dev nD) {sp sp' : Space} {s : Shape} {e : EltTy} (src : Memref sig .tc sp s e) (dst : Memref sig .tc sp' s e)
    (c' : Dev nD) (fs : Buf (Elt F) (src.view.loc (c : Thread nD τ))) (fd g : Buf (Elt F) (dst.view.loc (c' : Thread nD τ)))
    (h : dst.view.read (Elt F) g = src.view.read (Elt F) fs) (q : PosShare TreeShare) :
    ((dst.view.loc (c' : Thread nD τ) ↦[dst.view.set]{q} (dst.view.write (Elt F) fd (src.view.read (Elt F) fs) Finset.univ)) : sProp 𝕄)
      = (dst.view.loc (c' : Thread nD τ) ↦[dst.view.set]{q} g) := by
  refine pointsTo_congr fun i hi => ?_
  obtain ⟨x, -, rfl⟩ := Finset.mem_map.mp hi
  rw [View.write_emb_of_mem _ _ (Finset.mem_univ x), ← h, View.read_apply, cast_cast, cast_eq]

/-- The same for a local transfer that copies. -/
theorem landed_same (c : Dev nD) {sp sp' : Space} {s : Shape} {e : EltTy} (src : Memref sig .tc sp s e) (dst : Memref sig .tc sp' s e)
    (fs : Buf (Elt F) (src.view.loc (c : Thread nD τ))) (fd g : Buf (Elt F) (dst.view.loc (c : Thread nD τ)))
    (h : dst.view.read (Elt F) g = src.view.read (Elt F) fs) (q : PosShare TreeShare) :
    ((dst.view.loc (c : Thread nD τ) ↦[dst.view.set]{q} (dst.view.write (Elt F) fd (ReadAs.same.apply (src.view.read (Elt F) fs)) Finset.univ)) : sProp 𝕄)
      = (dst.view.loc (c : Thread nD τ) ↦[dst.view.set]{q} g) := landed_congr c src dst c fs fd g h q

/-- The block sent at `s` is the block the receiver expects. -/
theorem read_send (c : Fin 8) (s : Fin 8) :
    (gM.slice (rG s) (fun _ => rfl)).view.read (Elt F) (Ga m ρ (c - s)) = (hM.slice (rX (c - s)) (fun _ => rfl)).view.read (Elt F) (Xs m ρ c) := by
  funext x
  have hx0 : (x 0).val < 512 := (x 0).isLt
  have hx1 : (x 1).val < 512 := (x 1).isLt
  have hs := s.isLt
  have hc := c.isLt
  have hd := sub_val c s
  show Ga m ρ (c - s) ((rG s).emb x) = Xs m ρ c ((rX (c - s)).emb x)
  unfold rG rX
  rw [emb2 (a := 512) (b := 4096) (a' := 512) (b' := 512) _ _ x (by show 0 + _ < _; omega) (by show 512 * s.val + _ < _; omega),
    emb2 (a := 4096) (b := 512) (a' := 512) (b' := 512) _ _ x (by show 512 * (c - s).val + _ < _; omega) (by show 0 + _ < _; omega)]
  refine fin_ext_app (Xs m ρ) ?_ (ix2_ext ?_ ?_)
  · show ((c - s).val + (512 * s.val + (x 1).val) / 512) % 8 = c.val; omega
  · show (512 * (c - s).val + (0 + (x 0).val)) % 4096 = 512 * (c - s).val + (x 0).val; omega
  · show (512 * s.val + (x 1).val) % 512 = 0 + (x 1).val; omega

/-- The own block copied locally. -/
theorem read_own (c : Fin 8) :
    (gM.slice (rG 0) (fun _ => rfl)).view.read (Elt F) (Ga m ρ c) = (hM.slice (rX c) (fun _ => rfl)).view.read (Elt F) (Xs m ρ c) := by
  have e : ∀ c : Fin 8, c - 0 = c := by decide
  have h := read_send m ρ c 0
  rw [e c] at h
  exact h

/-- Half `u` of slot `s` holds the block of weights copied into it. -/
theorem read_weights (c : Fin 8) (s : Fin 3) (u : Fin 2) (t : ℕ) (q : Fin 4) (k : Fin 8) (hk : k.val = (c.val + t + u.val) % 8) (hp hq hsq) :
    ((bM.slice (rB s u) hp).squeeze S512x2048 hsq).view.read (Elt F) (Wb m c t q) = (wM.slice (rW k q) hq).view.read (Elt F) (Wt m c) := by
  funext x
  have hx0 : (x 0).val < 512 := (x 0).isLt
  have hx1 : (x 1).val < 2048 := (x 1).isLt
  have hu := u.isLt
  have hs := s.isLt
  have hk' := k.isLt
  have hq' := q.isLt
  show Wb m c t q ((rB s u).emb (Shape.reshapeEquiv hsq.numel_eq x)) = Wt m c ((rW k q).emb x)
  refine (congrArg (Wb m c t q) (emb_plane (n := 3) (a := 1024) (b := 2048) (a' := 512) (b' := 2048) ![s.val, 512 * u.val, 0] _ hsq.numel_eq x
    (by show s.val + 0 < _; omega) (by show 512 * u.val + (x 0).val < _; omega) (by show 0 + (x 1).val < _; omega))).trans ?_
  unfold rW
  rw [emb2 (a := 4096) (b := 8192) (a' := 512) (b' := 2048) _ _ x (by show 512 * k.val + _ < _; omega) (by show 2048 * q.val + _ < _; omega)]
  refine congrArg (Wt m c) (ix2_ext ?_ ?_)
  · show (512 * ((c.val + t + (512 * u.val + (x 0).val) / 512) % 8) + (512 * u.val + (x 0).val) % 512) % 4096 = 512 * k.val + (x 0).val; omega
  · show (2048 * q.val + (0 + (x 1).val)) % 8192 = 2048 * q.val + (x 1).val; omega

/-- Row `k` of the maxima holds what device `k` sends. -/
theorem read_max (j k : Fin 8) (h : k ≠ j) (hp hsq) :
    ((rM.slice (rR k) hp).squeeze S8x128 hsq).view.read (Elt F) (Ar m ρ j) = eM.view.read (Elt F) (As m ρ k) := by
  funext x
  have hx0 : (x 0).val < 8 := (x 0).isLt
  have hx1 : (x 1).val < 128 := (x 1).isLt
  have hk' := k.isLt
  show Ar m ρ j ((rR k).emb (Shape.reshapeEquiv hsq.numel_eq x)) = As m ρ k x
  refine (congrArg (Ar m ρ j) (emb_plane (n := 8) (a := 8) (b := 128) (a' := 8) (b' := 128) ![k.val, 0, 0] _ hsq.numel_eq x
    (by show k.val + 0 < _; omega) (by show 0 + (x 0).val < _; omega) (by show 0 + (x 1).val < _; omega))).trans ?_
  unfold Ar
  rw [if_neg (by show ¬ (k.val + 0 = j.val); exact fun e => h (Fin.ext (by omega)))]
  conv_rhs => rw [eq_ix2 (n0 := 8) (n1 := 128) x]
  refine fin_ext_app (As m ρ) rfl (ix2_ext ?_ ?_)
  · show 0 + (x 0).val = (x 0).val; omega
  · show 0 + (x 1).val = (x 1).val; omega

/-- What the loads of a product's operands read. -/
theorem read_gTwo (c : Fin 8) (g : ℕ) (hg : g < 4) (o : Fin 2 → ℕ) (ho : o = ![0, 1024 * g]) (hi) :
    gM.view.readAt (Elt F) (Rect.unit (s := S512x4096) o S512x1024.size hi).toLoadRect (Ga m ρ c) = gTwo m ρ c g := by
  subst ho
  funext x
  have hx0 : (x 0).val < 512 := (x 0).isLt
  have hx1 : (x 1).val < 1024 := (x 1).isLt
  show Ga m ρ c ((Rect.unit (s := S512x4096) ![0, 1024 * g] S512x1024.size hi).emb x) = _
  rw [emb2 (a := 512) (b := 4096) (a' := 512) (b' := 1024) _ _ x (by show 0 + _ < _; omega) (by show 1024 * g + _ < _; omega)]
  refine congrArg (Ga m ρ c) (ix2_ext ?_ ?_)
  · show 0 + (x 0).val = (x 0).val; omega
  · show 1024 * g + (x 1).val = (1024 * g + (x 1).val) % 4096; omega

theorem read_gOne (c : Fin 8) (t : ℕ) (ht : t < 8) (o : Fin 2 → ℕ) (ho : o = ![0, 512 * t]) (hi) :
    gM.view.readAt (Elt F) (Rect.unit (s := S512x4096) o S512x512.size hi).toLoadRect (Ga m ρ c) = gOne m ρ c t := by
  subst ho
  funext x
  have hx0 : (x 0).val < 512 := (x 0).isLt
  have hx1 : (x 1).val < 512 := (x 1).isLt
  show Ga m ρ c ((Rect.unit (s := S512x4096) ![0, 512 * t] S512x512.size hi).emb x) = _
  rw [emb2 (a := 512) (b := 4096) (a' := 512) (b' := 512) _ _ x (by show 0 + _ < _; omega) (by show 512 * t + _ < _; omega)]
  refine congrArg (Ga m ρ c) (ix2_ext ?_ ?_)
  · show 0 + (x 0).val = (x 0).val; omega
  · show 512 * t + (x 1).val = (512 * t + (x 1).val) % 4096; omega

theorem read_wTwo (c : Fin 8) (s : ℕ) (hs : s < 3) (t : ℕ) (q : Fin 4) (o : Fin 3 → ℕ) (ho : o = ![s, 0, 0]) (hi) :
    bM.view.readAt (Elt F) (Rect.unit (s := S3x1024x2048) o S1x1024x2048.size hi).toLoadRect (Wb m c t q) = wTwo m c t q := by
  subst ho
  funext x
  have hx0 : (x 0).val < 1 := (x 0).isLt
  have hx1 : (x 1).val < 1024 := (x 1).isLt
  have hx2 : (x 2).val < 2048 := (x 2).isLt
  show Wb m c t q ((Rect.unit (s := S3x1024x2048) ![s, 0, 0] S1x1024x2048.size hi).emb x) = _
  rw [emb3 (a := 3) (b := 1024) (d := 2048) (a' := 1) (b' := 1024) (d' := 2048) _ _ x (by show s + _ < _; omega) (by show 0 + _ < _; omega)
    (by show 0 + _ < _; omega)]
  refine congrArg (Wt m c) (ix2_ext ?_ ?_)
  · show (512 * ((c.val + t + (0 + (x 1).val) / 512) % 8) + (0 + (x 1).val) % 512) % 4096 = (512 * ((c.val + t + (x 1).val / 512) % 8) + (x 1).val % 512) % 4096
    rw [Nat.zero_add]
  · show (2048 * q.val + (0 + (x 2).val)) % 8192 = (2048 * q.val + (x 2).val) % 8192
    rw [Nat.zero_add]

theorem read_wOne (c : Fin 8) (s : ℕ) (hs : s < 3) (t : ℕ) (q : Fin 4) (o : Fin 3 → ℕ) (ho : o = ![s, 0, 0]) (hi) :
    bM.view.readAt (Elt F) (Rect.unit (s := S3x1024x2048) o S1x512x2048.size hi).toLoadRect (Wb m c t q) = wOne m c t q := by
  subst ho
  funext x
  have hx0 : (x 0).val < 1 := (x 0).isLt
  have hx1 : (x 1).val < 512 := (x 1).isLt
  have hx2 : (x 2).val < 2048 := (x 2).isLt
  show Wb m c t q ((Rect.unit (s := S3x1024x2048) ![s, 0, 0] S1x512x2048.size hi).emb x) = _
  rw [emb3 (a := 3) (b := 1024) (d := 2048) (a' := 1) (b' := 512) (d' := 2048) _ _ x (by show s + _ < _; omega) (by show 0 + _ < _; omega)
    (by show 0 + _ < _; omega)]
  refine congrArg (Wt m c) (ix2_ext ?_ ?_)
  · show (512 * ((c.val + t + (0 + (x 1).val) / 512) % 8) + (0 + (x 1).val) % 512) % 4096
      = (512 * ((c.val + t + (x 1).val % 1024 / 512) % 8) + (x 1).val % 1024 % 512) % 4096
    rw [Nat.zero_add, Nat.mod_eq_of_lt (a := (x 1).val) (b := 1024) (by omega)]
  · show (2048 * q.val + (0 + (x 2).val)) % 8192 = (2048 * q.val + (x 2).val) % 8192
    rw [Nat.zero_add]

omit [FloatOps F] in
/-- Column block `q` of contents given by column blocks. -/
theorem colBlocks_emb (v : Fin 4 → Vec F S512x2048 .f32) (q : Fin 4) (x : S512x2048.Idx) : colBlocks v ((rA q).emb x) = v q x := by
  have hx0 : (x 0).val < 512 := (x 0).isLt
  have hx1 : (x 1).val < 2048 := (x 1).isLt
  have hq := q.isLt
  unfold rA
  rw [emb2 (a := 512) (b := 8192) (a' := 512) (b' := 2048) _ _ x (by show 0 + _ < _; omega) (by show 2048 * q.val + _ < _; omega)]
  conv_rhs => rw [eq_ix2 (n0 := 512) (n1 := 2048) x]
  refine fin_ext_app v ?_ (ix2_ext ?_ ?_)
  · show (2048 * q.val + (x 1).val) / 2048 % 4 = q.val; omega
  · show 0 + (x 0).val = (x 0).val; omega
  · show (2048 * q.val + (x 1).val) % 2048 = (x 1).val; omega

/-- A load of column block `q` of the accumulator. -/
theorem read_acc (c : Fin 8) (n : ℕ) (q : Fin 4) : aM.view.readAt (Elt F) (rA q).toLoadRect (Av m ρ c n) = av m ρ c q n := by
  funext x
  exact colBlocks_emb (fun q => av m ρ c q n) q x

/-- A store into column block `q` of the accumulator. -/
theorem write_acc (c : Dev nD) (q : Fin 4) (f : (cc0_scratch3 : Ref sig .tc).ty.Contents (Elt F)) (v : Fin 4 → Vec F S512x2048 .f32) :
    (pts c cc0_scratch3 (rA q).set fullShare ((aM.access (rA q)).write (Elt F) f (v q) Finset.univ) : sProp 𝕄)
      = pts c cc0_scratch3 (rA q).set fullShare (colBlocks v) := by
  refine pointsTo_congr fun i hi => ?_
  obtain ⟨x, rfl⟩ := (rA q).exists_idx_of_mem hi
  refine Eq.trans ?_ (colBlocks_emb v q x).symm
  exact View.write_emb_of_mem (v := aM.access (rA q)) f (v q) (Finset.mem_univ x)

/-! ## Elements named by a view, as elements of the buffer -/

omit [FloatOps F] in
theorem pts_slice (c : Dev nD) (b : Ref sig .tc) (r : Rect b.ty.shape) (h) (q : PosShare TreeShare) (f : b.ty.Contents (Elt F)) :
    ((((Memref.whole b).slice r h).view.loc (c : Thread nD τ) ↦[((Memref.whole b).slice r h).view.set]{q} f) : sProp 𝕄) = pts c b r.set q f :=
  congrArg (fun S => (((c : Thread nD τ).loc b) ↦[S]{q} f : sProp 𝕄)) (View.set_slice_whole b r)

omit [FloatOps F] in
theorem pts_squeeze (c : Dev nD) (b : Ref sig .tc) (r : Rect b.ty.shape) (h) (s' : Shape) (hs) (q : PosShare TreeShare) (f : b.ty.Contents (Elt F)) :
    (((((Memref.whole b).slice r h).squeeze s' hs).view.loc (c : Thread nD τ) ↦[(((Memref.whole b).slice r h).squeeze s' hs).view.set]{q} f) : sProp 𝕄)
      = pts c b r.set q f :=
  congrArg (fun S => (((c : Thread nD τ).loc b) ↦[S]{q} f : sProp 𝕄)) ((View.set_reshape _ _).trans (View.set_slice_whole b r))

omit [FloatOps F] in
theorem pts_whole (c : Dev nD) (b : Ref sig .tc) (q : PosShare TreeShare) (f : b.ty.Contents (Elt F)) :
    (((Memref.whole b).view.loc (c : Thread nD τ) ↦[(Memref.whole b).view.set]{q} f) : sProp 𝕄) = pts c b Finset.univ q f :=
  congrArg (fun S => (((c : Thread nD τ).loc b) ↦[S]{q} f : sProp 𝕄)) (View.set_whole b)

/-! ## What every step carries -/

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The records and the levels, which every device may copy. -/
def Ctx (K : Key → ℕ) : sProp 𝕄 := iprop(Recs m ρ K ∗ levAts L lv)
instance Ctx_persistent (K : Key → ℕ) : BI.Persistent (Ctx (F := F) m ρ K) := by unfold Ctx; infer_instance

/-- What device `c` owes, whatever it has waited on. -/
def Ow (c : Dev nD) (O : CellTallies nD τ sig Unit) : sProp 𝕄 := iprop(∃ W, owes (c : Thread nD τ) O W)

theorem Ctx_cell (K : Key → ℕ) (ck : Key) : Ctx (F := F) m ρ K ⊢ iprop(cellInv ER (Rd m ρ) (K ck) (kcell ck) ∗ reached ER (kcell ck) 0) := by
  unfold Ctx
  iintro ⟨HR, -⟩
  iapply (Recs_at m ρ K ck) $$ HR

theorem Ctx_wait (K : Key → ℕ) (c : Dev nD) (sm : SemLoc sig) {n : ℕ} (hn : lv ((c : Thread nD τ), sm) () ≤ n) {O : CellTallies nD τ sig Unit} (hO : Above n O) :
    Ctx (F := F) m ρ K ⊢ MayWait (c : Thread nD τ) sm () O := by
  unfold Ctx
  iintro ⟨-, HL⟩
  iapply (mayWait_above c sm hn hO) $$ HL

theorem dmaPay_0 (c i : Fin 8) : dmaPay (F := F) m ρ c 0 i = pts c cc0_scratch0 (rX (c - i)).set fullShare (Xs m ρ c) := rfl
theorem dmaPay_1 (c i : Fin 8) : dmaPay (F := F) m ρ c 1 i = pts c cc0_scratch1 (rG i).set fullShare (Ga m ρ c) := rfl
theorem dmaPay_2 (c i : Fin 8) : dmaPay (F := F) m ρ c 2 i = pts c cc0_scratch4 Finset.univ (eShare i) (As m ρ c) := rfl
theorem dmaPay_3 (c i : Fin 8) : dmaPay (F := F) m ρ c 3 i = pts c cc0_scratch5 (rR i).set fullShare (Ar m ρ c) := rfl

theorem lv_own (c : Dev nD) : lv ((c : Thread nD τ), .dma lsem) () = 0 := by revert c; decide
theorem lv_weights (c : Dev nD) (s : Fin 3) : lv ((c : Thread nD τ), .dma (wsem s)) () = 0 := by revert c s; decide
theorem lv_out (c : Dev nD) (q : Fin 4) : lv ((c : Thread nD τ), .dma (osm q)) () = 0 := by revert c q; decide

/-! ## Blocks of `x` between devices -/

/-- Device `c` sends block `s` to device `c - s`. -/
theorem send_step (K : Key → ℕ) (c : Fin 8) (s : Fin 8) (hs : s ≠ 0) {O O' : CellTallies nD τ sig Unit} (hO : O' = O + tallyAt (dCell (c - s) 1 s) () NX)
    {o o2 : Fin 2 → ℕ} (ho : o = ![512 * (c - s).val, 0]) (ho2 : o2 = ![0, 512 * s.val]) {n : Dev nD} (hn : n = c - s) {sS rS : DmaSem sig}
    (hS : sS = dsem 0 s) (hR : rS = dsem 1 s) {hi hi2 hp hp2 hsc hsrc hdst hsem} {α : Type} {Q : α → sProp 𝕄}
    {k : PUnit → Prog (TpuEff nD τ sig (Elt F) Λ₀ .tc) α} :
    Ctx (F := F) m ρ K ⊢ iprop(Ow c O' -∗ dutyTok ER (dCell c 0 s) 0 0 -∗ dutyTok ER (dCell (c - s) 1 s) 0 0
      -∗ pts c cc0_scratch0 (rX (c - s)).set fullShare (Xs m ρ c) -∗ (∃ f, pts (c - s) cc0_scratch1 (rG s).set fullShare f)
      -∗ (cred (tallyAt (dCell c 0 s) () NX) -∗ Ow c O -∗ WP c (k ⟨⟩) Q)
      -∗ WP c (.op (.enqueueDma (hM.slice (Rect.unit (s := S4096x512) o S512x512.size hi) hp)
          (.remote (Dev.tc n : Thread nD τ) (gM.slice (Rect.unit (s := S512x4096) o2 S512x512.size hi2) hp2) (.dma sS) hsc) (.dma rS) hsrc hdst hsem) k) Q) := by
  subst hn; subst hS; subst hR; subst ho; subst ho2; subst hO
  have live0 : Live c 0 s := hs
  have live1 : Live (c - s) 1 s := hs
  unfold Ow
  iintro #HC ⟨%W, HO⟩ Ht Htr Hsrc ⟨%fd, Hdst⟩ Hk
  ihave HI0 := (Ctx_cell m ρ K (c, some (0, s))) $$ HC
  icases HI0 with ⟨#Hc0, #Hr0⟩
  ihave HI1 := (Ctx_cell m ρ K (c - s, some (1, s))) $$ HC
  icases HI1 with ⟨#Hc1, #Hr1⟩
  iapply (Rounds.wp_send_pointsTo 𝒱₀ ER (Rd m ρ) (c : Thread nD τ) none (κ₁ := K (c, some (0, s))) (κ₂ := K (c - s, some (1, s)))
    (c' := (Dev.tc (c - s) : Thread nD τ)) (src := hM.slice (rX (c - s)) hp) (dst := gM.slice (rG s) hp2) (sS := .dma (dsem 0 s)) (sem := .dma (dsem 1 s))
    (r₁ := 0) (r₂ := 0) (d₁ := (0 : Fin 8)) (d₂ := (0 : Fin 8)) (q := fullShare) (fs := Xs m ρ c) (fd := fd)
    (by rw [duties_live m ρ c live0]; exact Finset.mem_singleton_self _) (by rw [duties_live m ρ (c - s) live1]; exact Finset.mem_singleton_self _)
    () () NX rfl (amount_x m ρ c (by decide) s 0) (amount_x m ρ (c - s) (by decide) s 0) O rfl (W := W)
    (Entails.of_eq ((pts_slice c cc0_scratch0 (rX (c - s)) hp fullShare (Xs m ρ c)).trans (payload_dma m ρ c 0 s 0).symm))
    (Entails.of_eq ((landed_congr c (hM.slice (rX (c - s)) hp) (gM.slice (rG s) hp2) (c - s) (Xs m ρ c) fd (Ga m ρ (c - s)) (read_send m ρ c s) fullShare).trans
      ((pts_slice (c - s) cc0_scratch1 (rG s) hp2 fullShare (Ga m ρ (c - s))).trans (payload_dma m ρ (c - s) 1 s 0).symm)))) $$ [Hsrc Hdst HO Ht Htr]
  · isplitr; · iexact Hc0
    isplitr; · iexact Hc1
    isplitl [Hsrc]; · iapply (Entails.of_eq (pts_slice c cc0_scratch0 (rX (c - s)) hp fullShare (Xs m ρ c)).symm) $$ Hsrc
    isplitl [Hdst]; · iapply (Entails.of_eq (pts_slice (c - s) cc0_scratch1 (rG s) hp2 fullShare fd).symm) $$ Hdst
    isplitl [HO]; · iexact HO
    isplitl [Ht]; · iexact Ht
    isplitr; · iexact Hr0
    isplitl [Htr]; · iexact Htr
    iexact Hr1
  iintro ⟨Hcr, HO⟩
  iapply Hk $$ Hcr
  iexists W
  iexact HO

/-- The wait on a used transfer semaphore `(a, i)`: what its transfer hands over, and the counter back at zero. -/
theorem wait_cell (K : Key → ℕ) (c : Fin 8) (a : Fin 4) (i : Fin 8) (hl : Live c a i) {n : ℕ} (hn : lv (dCell c a i) () ≤ n)
    {O : CellTallies nD τ sig Unit} (hO : Above n O) {sp sp' : Space} {sh sh' : Shape} {e e' : EltTy} {src : Memref sig .tc sp' sh' e'} {dst : Memref sig .tc sp sh e}
    {hsrc : src.view.WordExact} {hdst : dst.view.WordExact} {N : ℕ} (hN : dst.view.dmaCredit = N) (ha : (Rd (F := F) m ρ).amount (dCell c a i) 0 0 = N) {sm : DmaSem sig} (hsm : sm = dsem a i)
    {α : Type} {Q : α → sProp 𝕄} {k : PUnit → Prog (TpuEff nD τ sig (Elt F) Λ₀ .tc) α} :
    Ctx (F := F) m ρ K ⊢ iprop(Ow c O -∗ cred (tallyAt (dCell c a i) () N) -∗ atPos ER (dCell c a i) 0 ∅ 0
      -∗ (Ow c O -∗ semVal (dCell c a i) 0 -∗ dmaPay m ρ c a i -∗ WP c (k ⟨⟩) Q)
      -∗ WP c (.op (.waitDma2 sm src dst hsrc hdst) k) Q) := by
  subst hsm; subst hN
  unfold Ow
  iintro #HC ⟨%W, HO⟩ Hcr Hat Hk
  ihave HI0 := (Ctx_cell m ρ K (c, some (a, i))) $$ HC
  icases HI0 with ⟨#Hc, -⟩
  iapply (Rounds.wp_wait_rest_token 𝒱₀ ER (Rd m ρ) (c : Thread nD τ) none (κ := K (c, some (a, i)))
      (wpE_waitDma2_eq 𝒱₀ (c : Thread nD τ) none Set.univ (src := src) (dst := dst) (sem := dsem a i)) (Set.mem_univ _) () (O := O) (W := W) (R := 0) (m := 0) (T := ∅)
      (by rw [Nat.zero_add, expect_dma m ρ c hl _ ha])) $$ [Hcr HO Hat]
  · isplitr; · iexact Hc
    isplitl [Hcr]; · iexact Hcr
    isplitl [HO]; · iexact HO
    isplitr; · iapply (Ctx_wait m ρ K c _ hn hO) $$ HC
    iexact Hat
  iintro ⟨HO, Hat, -, Hpay⟩
  imod (Rounds.cell_close ER (Rd m ρ) (Set.mem_univ (K (c, some (a, i)))) (fun h => h) (R := 0 + 1) (duties_later m ρ (dCell c a i))) $$ [Hat] with Hz
  · isplitr; · iexact Hc
    iexact Hat
  ihave Hpay := (Entails.of_eq (rest_dma m ρ c hl)) $$ Hpay
  iapply Hk $$ [HO] Hz Hpay
  iexists _
  iexact HO

/-! ## The gathered buffer, block by block -/

/-- The first `n` column blocks of the gathered buffer. -/
def Sg (n : ℕ) : Finset S512x4096.Idx := Finset.univ.filter fun i => (i 1).val < 512 * n

theorem mem_Sg {n : ℕ} {i : S512x4096.Idx} : i ∈ Sg n ↔ (i 1).val < 512 * n := by simp [Sg]
theorem mem_rG {t : Fin 8} {i : S512x4096.Idx} : i ∈ (rG t).set ↔ 512 * t.val ≤ (i 1).val ∧ (i 1).val < 512 * t.val + 512 := by
  have h0 : (i 0).val < 512 := (i 0).isLt
  unfold rG
  rw [Rect.mem_set_unit]
  constructor
  · intro h; exact h 1
  · intro h a
    fin_cases a
    · exact ⟨Nat.zero_le _, by show (i 0).val < 0 + 512; omega⟩
    · exact h

theorem Sg_zero : (rG 0).set = Sg 1 := by
  ext i; rw [mem_rG, mem_Sg]; show 512 * 0 ≤ (i 1).val ∧ (i 1).val < 512 * 0 + 512 ↔ _; omega
theorem Sg_succ (t : Fin 8) : Sg t.val ∪ (rG t).set = Sg (t.val + 1) := by
  ext i; rw [Finset.mem_union, mem_rG, mem_Sg, mem_Sg]; omega
theorem Sg_disj (t : Fin 8) : Disjoint (Sg t.val) (rG t).set := Finset.disjoint_left.mpr fun i h h' => by
  rw [mem_Sg] at h; rw [mem_rG] at h'; omega
theorem Sg_univ : Sg 8 = Finset.univ := Finset.eq_univ_of_forall fun i => mem_Sg.mpr (by have : (i 1).val < 4096 := (i 1).isLt; omega)

/-- The first `n` column blocks gathered. -/
def Gath (c : Dev nD) (n : ℕ) : sProp 𝕄 := pts c cc0_scratch1 (Sg n) fullShare (Ga m ρ c)

theorem gath_add (c : Dev nD) (t : Fin 8) :
    iprop(Gath (F := F) m ρ c t.val ∗ pts c cc0_scratch1 (rG t).set fullShare (Ga m ρ c)) ⊢ Gath m ρ c (t.val + 1) := by
  unfold Gath
  rw [← Sg_succ t]
  exact (pointsTo_union (Sg_disj t)).2

/-- The arrival of block `t`. -/
theorem recv_step (K : Key → ℕ) (c : Fin 8) (t : Fin 8) (ht : t ≠ 0) {n n' : ℕ} (hn : n = t.val) (hn' : n' = t.val + 1)
    {o : Fin 2 → ℕ} (ho : o = ![0, 512 * t.val]) {sp : Space} {sh : Shape} {e : EltTy} {src : Memref sig .tc sp sh e} {hi hp hsrc hdst}
    {rS : DmaSem sig} (hR : rS = dsem 1 t) {α : Type} {Q : α → sProp 𝕄} {k : PUnit → Prog (TpuEff nD τ sig (Elt F) Λ₀ .tc) α} :
    Ctx (F := F) m ρ K ⊢ iprop(Ow c (OA c 8) -∗ cred (tallyAt (dCell c 1 t) () NX) -∗ atPos ER (dCell c 1 t) 0 ∅ 0 -∗ Gath m ρ c n
      -∗ (Ow c (OA c 8) -∗ semVal (dCell c 1 t) 0 -∗ Gath m ρ c n' -∗ WP c (k ⟨⟩) Q)
      -∗ WP c (.op (.waitDma2 rS src (gM.slice (Rect.unit (s := S512x4096) o S512x512.size hi) hp) hsrc hdst) k) Q) := by
  subst ho; subst hn; subst hn'
  iintro #HC HO Hcr Hat HG Hk
  iapply (wait_cell m ρ K c 1 t ht (le_of_eq (lv_arr c 1 t)) (OA_above c 8) (dst := gM.slice (rG t) hp) (hdst := hdst) (N := NX) rfl (amount_x m ρ c (by decide) t 0) hR) $$ HC HO Hcr Hat
  iintro HO Hz Hpay
  iapply Hk $$ HO Hz
  iapply (gath_add m ρ c t)
  isplitl [HG]; · iexact HG
  iapply (Entails.of_eq (dmaPay_1 m ρ c t)) $$ Hpay

/-- A local transfer under way that delivers `P`. -/
def Fly (c : Dev nD) (sm : DmaSem sig) (N : ℕ) (P : sProp 𝕄) : sProp 𝕄 :=
  iprop(∃ D : sProp 𝕄, ⌜D ⊢ P⌝ ∗ Transfers.Flight EC (c : Thread nD τ) (.dma sm) () N D)

/-- The local copy of the own block starts. -/
theorem own_start (c : Fin 8) {o o2 : Fin 2 → ℕ} (ho : o = ![512 * c.val, 0]) (ho2 : o2 = ![0, 0]) {sS : DmaSem sig} (hS : sS = lsem)
    {hi hi2 hp hp2 hsrc hdst hsem} {α : Type} {Q : α → sProp 𝕄} {k : PUnit → Prog (TpuEff nD τ sig (Elt F) Λ₀ .tc) α} :
    pts c cc0_scratch0 (rX c).set fullShare (Xs m ρ c) ⊢ iprop((∃ f, pts c cc0_scratch1 (rG 0).set fullShare f) -∗ semVal ((c : Thread nD τ), .dma lsem) 0
      -∗ (Fly c lsem NX iprop(Gath m ρ c 1 ∗ pts c cc0_scratch0 (rX c).set fullShare (Xs m ρ c)) -∗ WP c (k ⟨⟩) Q)
      -∗ WP c (.op (.enqueueDma (hM.slice (Rect.unit (s := S4096x512) o S512x512.size hi) hp)
          (.here (gM.slice (Rect.unit (s := S512x4096) o2 S512x512.size hi2) hp2)) (.dma sS) hsrc hdst hsem) k) Q) := by
  subst ho; subst hS; subst ho2
  iintro Hs ⟨%fd, Hd⟩ Hv Hk
  iapply (Transfers.wp_dmaLocal EC 𝒱₀ (c : Thread nD τ) none (src := hM.slice (rX c) hp) (dst := gM.slice (rG 0) hp2) (sm := .dma lsem)
    (fs := Xs m ρ c) (fd := fd) (q := fullShare) (Sd := (gM.slice (rG 0) hp2).view.set) () NX rfl NX_pos subset_rfl) $$ [Hs Hd Hv]
  · isplitl [Hs]; · iapply (Entails.of_eq (pts_slice c cc0_scratch0 (rX c) hp fullShare (Xs m ρ c)).symm) $$ Hs
    isplitl [Hd]; · iapply (Entails.of_eq (pts_slice c cc0_scratch1 (rG 0) hp2 fullShare fd).symm) $$ Hd
    iexact Hv
  iintro HF
  iapply Hk
  unfold Fly
  iexists _
  isplitr [HF]
  swap; · iexact HF
  ipureintro
  refine BIClass.sep_mono (Entails.of_eq ?_) (Entails.of_eq (pts_slice c cc0_scratch0 (rX c) hp fullShare (Xs m ρ c)))
  refine ((landed_same c (hM.slice (rX c) hp) (gM.slice (rG 0) hp2) (Xs m ρ c) fd (Ga m ρ c) (read_own m ρ c) fullShare).trans
    (pts_slice c cc0_scratch1 (rG 0) hp2 fullShare (Ga m ρ c))).trans ?_
  unfold Gath
  rw [← Sg_zero]

/-- The wait on a local transfer. -/
theorem fly_wait (K : Key → ℕ) (c : Fin 8) {n : ℕ} {O : CellTallies nD τ sig Unit} (hO : Above n O) {sm : DmaSem sig} (hn : lv ((c : Thread nD τ), .dma sm) () ≤ n)
    {N : ℕ} {P : sProp 𝕄} {sp sp' : Space} {sh sh' : Shape} {e e' : EltTy} {src : Memref sig .tc sp' sh' e'} {dst : Memref sig .tc sp sh e}
    {hsrc : src.view.WordExact} {hdst : dst.view.WordExact} (hN : dst.view.dmaCredit = N) {sS : DmaSem sig} (hS : sS = sm)
    {α : Type} {Q : α → sProp 𝕄} {k : PUnit → Prog (TpuEff nD τ sig (Elt F) Λ₀ .tc) α} :
    Ctx (F := F) m ρ K ⊢ iprop(Ow c O -∗ Fly c sm N P -∗ (Ow c O -∗ semVal ((c : Thread nD τ), .dma sm) 0 -∗ P -∗ WP c (k ⟨⟩) Q)
      -∗ WP c (.op (.waitDma2 sS src dst hsrc hdst) k) Q) := by
  subst hS
  unfold Ow Fly
  iintro #HC ⟨%W, HO⟩ ⟨%D, %hD, HF⟩ Hk
  iapply (Transfers.wp_waitLocalO EC 𝒱₀ (c : Thread nD τ) none (sem := sS) (srcw := src) (dstw := dst) (hsrc := hsrc) (hdst := hdst) () (N := N) hN
    (O := O) (W := W)) $$ [HF HO]
  · isplitl [HF]; · iexact HF
    isplitl [HO]; · iexact HO
    iapply (Ctx_wait m ρ K c _ hn hO) $$ HC
  iintro ⟨HD, Hv, HO⟩
  iapply Hk $$ [HO] Hv [HD]
  · iexists _
    iexact HO
  · iapply hD $$ HD

end Cert.Proof

end
-- ==== Proof.Weights.lean ====
/-
# The weights

The weights come from main memory into three slots, in one or two copies on the slot's semaphore. A slot is free, has its
copies under way, or holds its blocks; each theorem moves it from one state to the next, or carries a product over it.
-/
module

public import proofs.«01_k».proof.Proof.Steps

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The states of a slot -/

/-- The half that copy `u` of a step fills. -/
def hf (u : ℕ) : Fin 2 := ⟨u % 2, Nat.mod_lt _ (by decide)⟩
/-- The row block of weights that copy `u` of a step at offset `t` takes. -/
def kw (c : Fin 8) (t u : ℕ) : Fin 8 := ⟨(c.val + t + u) % 8, Nat.mod_lt _ (by decide)⟩

/-- The share of the weights that the copies into half `u` of slot `s` read at. -/
def wShare (s : Fin 3) (u : Fin 2) : PosShare TreeShare := Transfers.shareTok fullShare 6 (⟨2 * s.val + u.val, by have := s.isLt; have := u.isLt; omega⟩ : Fin 6)

def wTok (c : Dev nD) (s : Fin 3) (u : Fin 2) : sProp 𝕄 := pts c main_arg1 Finset.univ (wShare s u) (Wt m c)
/-- What is left of that share while copy `u` reads its block. -/
def wRest (c : Fin 8) (s : Fin 3) (t : ℕ) (q : Fin 4) (u : ℕ) : sProp 𝕄 :=
  pts c main_arg1 (Finset.univ \ (rW (kw c t u) q).set) (wShare s (hf u)) (Wt m c)
def half (c : Dev nD) (s : Fin 3) (u : Fin 2) : sProp 𝕄 := iprop(∃ f, pts (F := F) c cc0_scratch2 (rB s u).set fullShare f)

/-- What copy `u` of a step delivers. -/
def Dw (c : Fin 8) (s : Fin 3) (t : ℕ) (q : Fin 4) (n : ℕ) (u : Fin n) : sProp 𝕄 :=
  iprop(pts c cc0_scratch2 (rB s (hf u.val)).set fullShare (Wb m c t q) ∗ pts c main_arg1 (rW (kw c t u.val) q).set (wShare s (hf u.val)) (Wt m c))
instance Dw_storable (c : Fin 8) (s : Fin 3) (t : ℕ) (q : Fin 4) (n : ℕ) (u : Fin n) : BI.Storable (upEmb : UEmb _ 𝕄) (Dw (F := F) m c s t q n u) := by
  unfold Dw; infer_instance

abbrev NW : ℕ := ((bM.slice (rB 0 0) (fun _ => rfl)).squeeze S512x2048 squeezes_S1x512x2048_S512x2048).view.dmaCredit
theorem NW_pos : 0 < NW := View.dmaCredit_pos _ (by decide)

/-- `j` of the step's `n` copies have started, `w` waits' worth is consumed. -/
abbrev Bt (c : Fin 8) (s : Fin 3) (t : ℕ) (q : Fin 4) (n j w : ℕ) : sProp 𝕄 :=
  Transfers.Batch EC (c : Thread nD τ) (.dma (wsem s)) () NW (Dw m c s t q n) j w

/-- Slot `s` free. -/
def Slot (c : Dev nD) (s : Fin 3) : sProp 𝕄 :=
  iprop(semVal ((c : Thread nD τ), .dma (wsem s)) 0 ∗ half c s (hf 0) ∗ half c s (hf 1) ∗ wTok m c s (hf 0) ∗ wTok m c s (hf 1))
/-- A step's single copy under way. -/
def Fly1 (c : Fin 8) (s : Fin 3) (t : ℕ) (q : Fin 4) : sProp 𝕄 :=
  iprop(Bt m c s t q 1 1 0 ∗ wRest m c s t q 0 ∗ half c s (hf 1) ∗ wTok m c s (hf 1))
/-- A step's two copies under way. -/
def Fly2 (c : Fin 8) (s : Fin 3) (t : ℕ) (q : Fin 4) : sProp 𝕄 :=
  iprop(Bt m c s t q 2 2 0 ∗ wRest m c s t q 0 ∗ wRest m c s t q 1)

omit [FloatOps F] in
theorem wTok_split (c : Fin 8) (s : Fin 3) (t : ℕ) (q : Fin 4) (u : ℕ) :
    wTok (F := F) m c s (hf u) ⊣⊢ iprop(pts c main_arg1 (rW (kw c t u) q).set (wShare s (hf u)) (Wt m c) ∗ wRest m c s t q u) := by
  unfold wTok wRest
  exact pointsTo_split_subset (Finset.subset_univ _)

/-! ## The copies start -/

/-- Copy `j` of a step starts. -/
theorem copy_start (c : Fin 8) (s : Fin 3) (t : ℕ) (q : Fin 4) (n j : ℕ) (hj : j < n) (hj2 : j < 2)
    {o : Fin 2 → ℕ} (ho : o = ![512 * (kw c t j).val, 2048 * q.val]) {o2 : Fin 3 → ℕ} (ho2 : o2 = ![s.val, 512 * (hf j).val, 0]) {sS : DmaSem sig} (hS : sS = wsem s)
    {hi hi2 hp hp2 hsq hsrc hdst hsem} {α : Type} {Q : α → sProp 𝕄} {k : PUnit → Prog (TpuEff nD τ sig (Elt F) Λ₀ .tc) α} :
    Bt (F := F) m c s t q n j 0 ⊢ iprop(half c s (hf j) -∗ wTok m c s (hf j)
      -∗ (Bt m c s t q n (j + 1) 0 -∗ wRest m c s t q j -∗ WP c (k ⟨⟩) Q)
      -∗ WP c (.op (.enqueueDma (wM.slice (Rect.unit (s := S4096x8192) o S512x2048.size hi) hp)
          (.here ((bM.slice (Rect.unit (s := S3x1024x2048) o2 S1x512x2048.size hi2) hp2).squeeze S512x2048 hsq)) (.dma sS) hsrc hdst hsem) k) Q) := by
  subst ho; subst hS; subst ho2
  unfold half
  iintro HB ⟨%fd, Hd⟩ Ht Hk
  ihave Ht := (wTok_split m c s t q j).1 $$ Ht
  icases Ht with ⟨Hs, Hr⟩
  iapply (Transfers.wp_dmaBatch EC 𝒱₀ (c : Thread nD τ) none (src := wM.slice (rW (kw c t j) q) hp) (dst := (bM.slice (rB s (hf j)) hp2).squeeze S512x2048 hsq)
    (sm := .dma (wsem s)) (fs := Wt m c) (fd := fd) (q := wShare s (hf j)) (Sd := ((bM.slice (rB s (hf j)) hp2).squeeze S512x2048 hsq).view.set)
    () NW rfl subset_rfl hj (Nat.zero_le _) (D := Dw m c s t q n)
    (BIClass.sep_mono (Entails.of_eq ((landed_same c (wM.slice (rW (kw c t j) q) hp) ((bM.slice (rB s (hf j)) hp2).squeeze S512x2048 hsq) (Wt m c) fd (Wb m c t q)
          (read_weights m c s (hf j) t q (kw c t j) (by unfold kw hf; show (c.val + t + j) % 8 = (c.val + t + j % 2) % 8; have : j < 2 := hj2; omega) _ _ _) fullShare).trans (pts_squeeze c cc0_scratch2 (rB s (hf j)) hp2 S512x2048 hsq fullShare (Wb m c t q))))
      (Entails.of_eq (pts_slice c main_arg1 (rW (kw c t j) q) hp (wShare s (hf j)) (Wt m c))))) $$ [Hs Hd HB]
  · isplitl [Hs]; · iapply (Entails.of_eq (pts_slice c main_arg1 (rW (kw c t j) q) hp (wShare s (hf j)) (Wt m c)).symm) $$ Hs
    isplitl [Hd]; · iapply (Entails.of_eq (pts_squeeze c cc0_scratch2 (rB s (hf j)) hp2 S512x2048 hsq fullShare fd).symm) $$ Hd
    iexact HB
  iintro HB
  iapply Hk $$ HB Hr

/-- The step's single copy starts. -/
theorem start1 (c : Fin 8) (s : Fin 3) (t : ℕ) (q : Fin 4)
    {o : Fin 2 → ℕ} (ho : o = ![512 * (kw c t 0).val, 2048 * q.val]) {o2 : Fin 3 → ℕ} (ho2 : o2 = ![s.val, 0, 0]) {sS : DmaSem sig} (hS : sS = wsem s)
    {hi hi2 hp hp2 hsq hsrc hdst hsem} {α : Type} {Q : α → sProp 𝕄} {k : PUnit → Prog (TpuEff nD τ sig (Elt F) Λ₀ .tc) α} :
    Slot (F := F) m c s ⊢ iprop((Fly1 m c s t q -∗ WP c (k ⟨⟩) Q)
      -∗ WP c (.op (.enqueueDma (wM.slice (Rect.unit (s := S4096x8192) o S512x2048.size hi) hp)
          (.here ((bM.slice (Rect.unit (s := S3x1024x2048) o2 S1x512x2048.size hi2) hp2).squeeze S512x2048 hsq)) (.dma sS) hsrc hdst hsem) k) Q) := by
  unfold Slot Fly1
  iintro ⟨Hv, H0, H1, Ht0, Ht1⟩ Hk
  imod (Transfers.batch_alloc' EC (c : Thread nD τ) () NW (Dw m c s t q 1)) $$ Hv with HB
  iapply (copy_start m c s t q 1 0 (by decide) (by decide) ho ho2 hS) $$ HB H0 Ht0
  iintro HB Hr
  iapply Hk
  isplitl [HB]; · iexact HB
  isplitl [Hr]; · iexact Hr
  isplitl [H1]; · iexact H1
  iexact Ht1

/-- The step's two copies start. -/
theorem start2 (c : Fin 8) (s : Fin 3) (t : ℕ) (q : Fin 4)
    {o o' : Fin 2 → ℕ} (ho : o = ![512 * (kw c t 0).val, 2048 * q.val]) (ho' : o' = ![512 * (kw c t 1).val, 2048 * q.val])
    {o2 o2' : Fin 3 → ℕ} (ho2 : o2 = ![s.val, 0, 0]) (ho2' : o2' = ![s.val, 512, 0]) {sS sS' : DmaSem sig} (hS : sS = wsem s) (hS' : sS' = wsem s)
    {hi hi2 hp hp2 hsq hsrc hdst hsem hi' hi2' hp' hp2' hsq' hsrc' hdst' hsem'} {α : Type} {Q : α → sProp 𝕄}
    {k : PUnit → Prog (TpuEff nD τ sig (Elt F) Λ₀ .tc) α} :
    Slot (F := F) m c s ⊢ iprop((Fly2 m c s t q -∗ WP c (k ⟨⟩) Q)
      -∗ WP c (.op (.enqueueDma (wM.slice (Rect.unit (s := S4096x8192) o S512x2048.size hi) hp)
          (.here ((bM.slice (Rect.unit (s := S3x1024x2048) o2 S1x512x2048.size hi2) hp2).squeeze S512x2048 hsq)) (.dma sS) hsrc hdst hsem) fun _ =>
          .op (.enqueueDma (wM.slice (Rect.unit (s := S4096x8192) o' S512x2048.size hi') hp')
          (.here ((bM.slice (Rect.unit (s := S3x1024x2048) o2' S1x512x2048.size hi2') hp2').squeeze S512x2048 hsq')) (.dma sS') hsrc' hdst' hsem') k) Q) := by
  unfold Slot Fly2
  iintro ⟨Hv, H0, H1, Ht0, Ht1⟩ Hk
  imod (Transfers.batch_alloc' EC (c : Thread nD τ) () NW (Dw m c s t q 2)) $$ Hv with HB
  iapply (copy_start m c s t q 2 0 (by decide) (by decide) ho ho2 hS) $$ HB H0 Ht0
  iintro HB Hr0
  iapply (copy_start m c s t q 2 1 (by decide) (by decide) ho' ho2' hS') $$ HB H1 Ht1
  iintro HB Hr1
  iapply Hk
  isplitl [HB]; · iexact HB
  isplitl [Hr0]; · iexact Hr0
  iexact Hr1

/-! ## Loads and stores -/

omit [FloatOps F] in
theorem setOn_whole (b : Ref sig .tc) (S : Finset b.ty.Idx) : (Memref.whole b).view.setOn S ⊆ S := fun i hi => by
  obtain ⟨x, hx, rfl⟩ := Finset.mem_map.mp hi
  exact hx

/-- Columns of the gathered buffer that have arrived are loaded. -/
theorem load_gath (c : Dev nD) (n : ℕ) {r : LoadRect S512x4096} (hr : r.set ⊆ Sg n) {hl} {α : Type} {Q : α → sProp 𝕄}
    {k : (r.shape.Idx → Elt F .bf16) → Prog (TpuEff nD τ sig (Elt F) Λ₀ .tc) α} :
    Gath (F := F) m ρ c n ⊢ iprop((Gath m ρ c n -∗ WP c (k (gM.view.readAt (Elt F) r (Ga m ρ c))) Q) -∗ WP c (.op (.load gM r hl) k) Q) := by
  unfold Gath
  exact wp_load 𝒱₀ (c : Thread nD τ) none Set.univ (m := gM) ((setOn_whole cc0_scratch1 r.set).trans hr)

/-- A column block of the accumulator is loaded. -/
theorem load_acc (c : Dev nD) (q : Fin 4) (f : (cc0_scratch3 : Ref sig .tc).ty.Contents (Elt F)) {o : Fin 2 → ℕ} (ho : o = ![0, 2048 * q.val]) {hi hl}
    {α : Type} {Q : α → sProp 𝕄} {k : (S512x2048.Idx → Elt F .f32) → Prog (TpuEff nD τ sig (Elt F) Λ₀ .tc) α} :
    pts (F := F) c cc0_scratch3 (rA q).set fullShare f
      ⊢ iprop((pts c cc0_scratch3 (rA q).set fullShare f -∗ WP c (k (aM.view.readAt (Elt F) (rA q).toLoadRect f)) Q)
        -∗ WP c (.op (.load aM (Rect.unit (s := S512x8192) o S512x2048.size hi).toLoadRect hl) k) Q) := by
  subst ho
  exact wp_load 𝒱₀ (c : Thread nD τ) none Set.univ (m := aM) (r := (rA q).toLoadRect) (setOn_whole cc0_scratch3 (rA q).set)

/-- A column block of the accumulator is stored. -/
theorem store_acc (c : Dev nD) (q : Fin 4) (f : (cc0_scratch3 : Ref sig .tc).ty.Contents (Elt F)) {o : Fin 2 → ℕ} (ho : o = ![0, 2048 * q.val])
    (v : Fin 4 → Vec F S512x2048 .f32) {w : Vec F S512x2048 .f32} (hw : w = v q) {hi hl hm}
    {α : Type} {Q : α → sProp 𝕄} {k : PUnit → Prog (TpuEff nD τ sig (Elt F) Λ₀ .tc) α} :
    pts (F := F) c cc0_scratch3 (rA q).set fullShare f
      ⊢ iprop((pts c cc0_scratch3 (rA q).set fullShare (colBlocks v) -∗ WP c (k ⟨⟩) Q)
        -∗ WP c (.op (.store aM (Rect.unit (s := S512x8192) o S512x2048.size hi) w Finset.univ hl hm) k) Q) := by
  subst ho; subst hw
  rw [← write_acc c q f v]
  exact wp_store 𝒱₀ (c : Thread nD τ) none Set.univ (m := aM) (r := rA q) (subset_of_eq (View.set_slice_whole cc0_scratch3 (rA q)))

/-! ## A step's blocks arrive and are read -/

/-- Rows `0` to `512 n` of slot `s`. -/
def Sb (s : Fin 3) (n : ℕ) : Finset S3x1024x2048.Idx := Finset.univ.filter fun i => (i 0).val = s.val ∧ (i 1).val < 512 * n

theorem mem_Sb {s : Fin 3} {n : ℕ} {i : S3x1024x2048.Idx} : i ∈ Sb s n ↔ (i 0).val = s.val ∧ (i 1).val < 512 * n := by simp [Sb]
theorem mem_rB {s : Fin 3} {u : Fin 2} {i : S3x1024x2048.Idx} :
    i ∈ (rB s u).set ↔ (i 0).val = s.val ∧ 512 * u.val ≤ (i 1).val ∧ (i 1).val < 512 * u.val + 512 := by
  have h2 : (i 2).val < 2048 := (i 2).isLt
  unfold rB
  rw [Rect.mem_set_unit]
  constructor
  · intro h
    have h0 : s.val ≤ (i 0).val ∧ (i 0).val < s.val + 1 := h 0
    exact ⟨by omega, h 1⟩
  · intro h a
    fin_cases a
    · exact ⟨by show s.val ≤ (i 0).val; omega, by show (i 0).val < s.val + 1; omega⟩
    · exact h.2
    · exact ⟨Nat.zero_le _, by show (i 2).val < 0 + 2048; omega⟩

theorem Sb_one (s : Fin 3) : (rB s (hf 0)).set = Sb s 1 := by
  ext i; rw [mem_rB, mem_Sb]; show _ ∧ 512 * 0 ≤ (i 1).val ∧ (i 1).val < 512 * 0 + 512 ↔ _; omega
theorem Sb_two (s : Fin 3) : (rB s (hf 0)).set ∪ (rB s (hf 1)).set = Sb s 2 := by
  ext i; rw [Finset.mem_union, mem_rB, mem_rB, mem_Sb]
  show (_ ∧ 512 * 0 ≤ (i 1).val ∧ (i 1).val < 512 * 0 + 512) ∨ (_ ∧ 512 * 1 ≤ (i 1).val ∧ (i 1).val < 512 * 1 + 512) ↔ _; omega
theorem rB_disj (s : Fin 3) : Disjoint (rB s (hf 0)).set (rB s (hf 1)).set := Finset.disjoint_left.mpr fun i h h' => by
  rw [mem_rB] at h h'
  have h1 : (i 1).val < 512 * 0 + 512 := h.2.2
  have h2 : 512 * 1 ≤ (i 1).val := h'.2.1
  omega

/-- Rows of a slot that have arrived are loaded. -/
theorem load_slot (c : Dev nD) (s : Fin 3) (t : ℕ) (q : Fin 4) (n : ℕ) {r : LoadRect S3x1024x2048} (hr : r.set ⊆ Sb s n) {hl} {α : Type} {Q : α → sProp 𝕄}
    {k : (r.shape.Idx → Elt F .f32) → Prog (TpuEff nD τ sig (Elt F) Λ₀ .tc) α} :
    pts (F := F) c cc0_scratch2 (Sb s n) fullShare (Wb m c t q)
      ⊢ iprop((pts c cc0_scratch2 (Sb s n) fullShare (Wb m c t q) -∗ WP c (k (bM.view.readAt (Elt F) r (Wb m c t q))) Q) -∗ WP c (.op (.load bM r hl) k) Q) :=
  wp_load 𝒱₀ (c : Thread nD τ) none Set.univ (m := bM) ((setOn_whole cc0_scratch2 r.set).trans hr)

/-- What the two copies of a step deliver, put together. -/
theorem deliver2 (c : Fin 8) (s : Fin 3) (t : ℕ) (q : Fin 4) :
    (bigSep Finset.univ (Dw (F := F) m c s t q 2)) ⊢ iprop(wRest m c s t q 0 -∗ wRest m c s t q 1
      -∗ (pts c cc0_scratch2 (Sb s 2) fullShare (Wb m c t q) ∗ wTok m c s (hf 0) ∗ wTok m c s (hf 1))) := by
  rw [bigSep_univ_eq_bigSepL [0, 1] (by decide) (by decide), bigSepL_cons_cons, bigSepL_singleton]
  show iprop((pts c cc0_scratch2 (rB s (hf 0)).set fullShare (Wb m c t q) ∗ pts c main_arg1 (rW (kw c t 0) q).set (wShare s (hf 0)) (Wt m c))
    ∗ pts c cc0_scratch2 (rB s (hf 1)).set fullShare (Wb m c t q) ∗ pts c main_arg1 (rW (kw c t 1) q).set (wShare s (hf 1)) (Wt m c)) ⊢ _
  iintro ⟨⟨H0, S0⟩, H1, S1⟩ R0 R1
  isplitl [H0 H1]
  · rw [← Sb_two s]
    iapply (pointsTo_union (rB_disj s)).2
    isplitl [H0]; · iexact H0
    iexact H1
  isplitl [S0 R0]
  · iapply (wTok_split m c s t q 0).2
    isplitl [S0]; · iexact S0
    iexact R0
  · iapply (wTok_split m c s t q 1).2
    isplitl [S1]; · iexact S1
    iexact R1

/-- What the single copy of a step delivers. -/
theorem deliver1 (c : Fin 8) (s : Fin 3) (t : ℕ) (q : Fin 4) :
    (bigSep Finset.univ (Dw (F := F) m c s t q 1)) ⊢ iprop(wRest m c s t q 0
      -∗ (pts c cc0_scratch2 (Sb s 1) fullShare (Wb m c t q) ∗ wTok m c s (hf 0))) := by
  rw [bigSep_univ_eq_bigSepL [0] (by decide) (by decide), bigSepL_singleton]
  show iprop(pts c cc0_scratch2 (rB s (hf 0)).set fullShare (Wb m c t q) ∗ pts c main_arg1 (rW (kw c t 0) q).set (wShare s (hf 0)) (Wt m c)) ⊢ _
  iintro ⟨H0, S0⟩ R0
  isplitl [H0]
  · rw [← Sb_one s]
    iexact H0
  · iapply (wTok_split m c s t q 0).2
    isplitl [S0]; · iexact S0
    iexact R0

omit [FloatOps F] in
/-- A slot read is free again. -/
theorem halves_of_two (c : Dev nD) (s : Fin 3) (f : (cc0_scratch2 : Ref sig .tc).ty.Contents (Elt F)) :
    pts (F := F) c cc0_scratch2 (Sb s 2) fullShare f ⊢ iprop(half c s (hf 0) ∗ half c s (hf 1)) := by
  rw [← Sb_two s]
  refine (pointsTo_union (rB_disj s)).1.trans ?_
  unfold half
  iintro ⟨H0, H1⟩
  isplitl [H0]
  · iexists f; iexact H0
  · iexists f; iexact H1
omit [FloatOps F] in
theorem half_of_one (c : Dev nD) (s : Fin 3) (f : (cc0_scratch2 : Ref sig .tc).ty.Contents (Elt F)) :
    pts (F := F) c cc0_scratch2 (Sb s 1) fullShare f ⊢ half c s (hf 0) := by
  rw [← Sb_one s]
  unfold half
  iintro H
  iexists f
  iexact H

/-- A step of two copies: both arrive, its columns of the gathered buffer and its slot are loaded, and the slot is free. -/
theorem take2 (K : Key → ℕ) (c : Fin 8) (s : Fin 3) (t : ℕ) (q : Fin 4) (g n : ℕ) (hg : g < 4) (hgn : 1024 * g + 1024 ≤ 512 * n)
    {sp sp' : Space} {sh sh' : Shape} {e e' : EltTy} {src : Memref sig .tc sp' sh' e'} {dst : Memref sig .tc sp sh e}
    {hsrc : src.view.WordExact} {hdst : dst.view.WordExact} (hN : dst.view.dmaCredit = NW) {sS : DmaSem sig} (hS : sS = wsem s)
    {rp rp' : Space} {rh rh' : Shape} {d d' : EltTy} {src2 : Memref sig .tc rp' rh' d'} {dst2 : Memref sig .tc rp rh d}
    {hsrc2 : src2.view.WordExact} {hdst2 : dst2.view.WordExact} (hN2 : dst2.view.dmaCredit = NW) {sS2 : DmaSem sig} (hS2 : sS2 = wsem s)
    {og : Fin 2 → ℕ} (hog : og = ![0, 1024 * g]) {ob : Fin 3 → ℕ} (hob : ob = ![s.val, 0, 0]) {hi hi2 hl hl2}
    {α : Type} {Q : α → sProp 𝕄} {k : Vec F S512x1024 .bf16 → Vec F S1x1024x2048 .f32 → Prog (TpuEff nD τ sig (Elt F) Λ₀ .tc) α} :
    Ctx (F := F) m ρ K ⊢ iprop(Ow c (OA c 8) -∗ Fly2 m c s t q -∗ Gath m ρ c n
      -∗ (Ow c (OA c 8) -∗ Slot m c s -∗ Gath m ρ c n -∗ WP c (k (gTwo m ρ c g) (wTwo m c t q)) Q)
      -∗ WP c (.op (.waitDma2 sS src dst hsrc hdst) fun _ => .op (.waitDma2 sS2 src2 dst2 hsrc2 hdst2) fun _ =>
          .op (.load gM (Rect.unit (s := S512x4096) og S512x1024.size hi).toLoadRect hl) fun x =>
          .op (.load bM (Rect.unit (s := S3x1024x2048) ob S1x1024x2048.size hi2).toLoadRect hl2) fun y => k x y) Q) := by
  subst hS; subst hS2
  unfold Ow Fly2
  iintro #HC ⟨%W, HO⟩ ⟨HB, R0, R1⟩ HG Hk
  iapply (Transfers.wp_waitBatchO EC 𝒱₀ (c : Thread nD τ) none (sem := wsem s) (srcw := src) (dstw := dst) (hsrc := hsrc) (hdst := hdst) () (N := NW) hN
    (u := 0) (D := Dw m c s t q 2) (by have := NW_pos; omega) (O := OA c 8) (W := W)) $$ [HB HO]
  · isplitl [HB]; · iexact HB
    isplitl [HO]; · iexact HO
    iapply (Ctx_wait m ρ K c _ (by rw [lv_weights]; decide) (OA_above c 8)) $$ HC
  iintro ⟨HB, HO⟩
  iapply (Transfers.wp_waitBatchLastO EC 𝒱₀ (c : Thread nD τ) none (sem := wsem s) (srcw := src2) (dstw := dst2) (hsrc := hsrc2) (hdst := hdst2) () (N := NW) hN2 NW_pos
    (u := 0 + NW) (D := Dw m c s t q 2) (by omega) (O := OA c 8)) $$ [HB HO]
  · isplitl [HB]; · iexact HB
    isplitl [HO]; · iexact HO
    iapply (Ctx_wait m ρ K c _ (by rw [lv_weights]; decide) (OA_above c 8)) $$ HC
  iintro ⟨HD, Hv, HO⟩
  ihave HD := (deliver2 m c s t q) $$ HD R0 R1
  icases HD with ⟨Hs, T0, T1⟩
  iapply (load_gath m ρ c n (r := (Rect.unit (s := S512x4096) og S512x1024.size hi).toLoadRect) (fun i hx => by
    rw [mem_Sg]
    have h := (Rect.mem_set_unit.mp hx) 1
    subst hog
    have h' : (i 1).val < 1024 * g + 1024 := h.2
    omega)) $$ HG
  iintro HG
  iapply (load_slot m c s t q 2 (r := (Rect.unit (s := S3x1024x2048) ob S1x1024x2048.size hi2).toLoadRect) (fun i hx => by
    rw [mem_Sb]
    have h := Rect.mem_set_unit.mp hx
    subst hob
    have h0 : s.val ≤ (i 0).val ∧ (i 0).val < s.val + 1 := h 0
    have h1 : (i 1).val < 0 + 1024 := (h 1).2
    omega)) $$ Hs
  iintro Hs
  ihave Hs := (halves_of_two c s _) $$ Hs
  icases Hs with ⟨H0, H1⟩
  rw [read_gTwo m ρ c g hg og hog hi, read_wTwo m c s s.isLt t q ob hob hi2]
  unfold Slot
  iapply Hk $$ [HO] [Hv H0 H1 T0 T1] HG
  · iexists _
    iexact HO
  · isplitl [Hv]; · iexact Hv
    isplitl [H0]; · iexact H0
    isplitl [H1]; · iexact H1
    isplitl [T0]; · iexact T0
    iexact T1

/-- A step of one copy: it arrives, its columns of the gathered buffer and its half slot are loaded, and the slot is free. -/
theorem take1 (K : Key → ℕ) (c : Fin 8) (s : Fin 3) (t : ℕ) (q : Fin 4) (n : ℕ) (ht : t < 8) (hgn : t + 1 ≤ n)
    {sp sp' : Space} {sh sh' : Shape} {e e' : EltTy} {src : Memref sig .tc sp' sh' e'} {dst : Memref sig .tc sp sh e}
    {hsrc : src.view.WordExact} {hdst : dst.view.WordExact} (hN : dst.view.dmaCredit = NW) {sS : DmaSem sig} (hS : sS = wsem s)
    {og : Fin 2 → ℕ} (hog : og = ![0, 512 * t]) {ob : Fin 3 → ℕ} (hob : ob = ![s.val, 0, 0]) {hi hi2 hl hl2}
    {α : Type} {Q : α → sProp 𝕄} {k : Vec F S512x512 .bf16 → Vec F S1x512x2048 .f32 → Prog (TpuEff nD τ sig (Elt F) Λ₀ .tc) α} :
    Ctx (F := F) m ρ K ⊢ iprop(Ow c (OA c 8) -∗ Fly1 m c s t q -∗ Gath m ρ c n
      -∗ (Ow c (OA c 8) -∗ Slot m c s -∗ Gath m ρ c n -∗ WP c (k (gOne m ρ c t) (wOne m c t q)) Q)
      -∗ WP c (.op (.waitDma2 sS src dst hsrc hdst) fun _ =>
          .op (.load gM (Rect.unit (s := S512x4096) og S512x512.size hi).toLoadRect hl) fun x =>
          .op (.load bM (Rect.unit (s := S3x1024x2048) ob S1x512x2048.size hi2).toLoadRect hl2) fun y => k x y) Q) := by
  subst hS
  unfold Ow Fly1
  iintro #HC ⟨%W, HO⟩ ⟨HB, R0, H1, T1⟩ HG Hk
  iapply (Transfers.wp_waitBatchLastO EC 𝒱₀ (c : Thread nD τ) none (sem := wsem s) (srcw := src) (dstw := dst) (hsrc := hsrc) (hdst := hdst) () (N := NW) hN NW_pos
    (u := 0) (D := Dw m c s t q 1) (by omega) (O := OA c 8) (W := W)) $$ [HB HO]
  · isplitl [HB]; · iexact HB
    isplitl [HO]; · iexact HO
    iapply (Ctx_wait m ρ K c _ (by rw [lv_weights]; decide) (OA_above c 8)) $$ HC
  iintro ⟨HD, Hv, HO⟩
  ihave HD := (deliver1 m c s t q) $$ HD R0
  icases HD with ⟨Hs, T0⟩
  iapply (load_gath m ρ c n (r := (Rect.unit (s := S512x4096) og S512x512.size hi).toLoadRect) (fun i hx => by
    rw [mem_Sg]
    have h := (Rect.mem_set_unit.mp hx) 1
    subst hog
    have h' : (i 1).val < 512 * t + 512 := h.2
    omega)) $$ HG
  iintro HG
  iapply (load_slot m c s t q 1 (r := (Rect.unit (s := S3x1024x2048) ob S1x512x2048.size hi2).toLoadRect) (fun i hx => by
    rw [mem_Sb]
    have h := Rect.mem_set_unit.mp hx
    subst hob
    have h0 : s.val ≤ (i 0).val ∧ (i 0).val < s.val + 1 := h 0
    have h1 : (i 1).val < 0 + 512 := (h 1).2
    omega)) $$ Hs
  iintro Hs
  ihave H0 := (half_of_one c s _) $$ Hs
  rw [read_gOne m ρ c t ht og hog hi, read_wOne m c s s.isLt t q ob hob hi2]
  unfold Slot
  iapply Hk $$ [HO] [Hv H0 H1 T0 T1] HG
  · iexists _
    iexact HO
  · isplitl [Hv]; · iexact Hv
    isplitl [H0]; · iexact H0
    isplitl [H1]; · iexact H1
    isplitl [T0]; · iexact T0
    iexact T1

/-! ## The products reach the accumulator -/

/-- A column block of the accumulator as the first group of products finds it. -/
def AccAny (c : Dev nD) (q : Fin 4) : sProp 𝕄 := iprop(∃ f, pts (F := F) c cc0_scratch3 (rA q).set fullShare f)
/-- A column block of the accumulator after group `n`. -/
def Acc (c : Dev nD) (q : Fin 4) (n : ℕ) : sProp 𝕄 := pts c cc0_scratch3 (rA q).set fullShare (Av m ρ c n)

/-- The first group's store. -/
theorem acc_first (c : Dev nD) (q : Fin 4) {o o' : Fin 2 → ℕ} (ho : o = ![0, 2048 * q.val]) (ho' : o' = ![0, 2048 * q.val]) {hi hi' hl hl' hm'}
    {P : Vec F S512x2048 .f32} (hP : P = av m ρ c q 0) {α : Type} {Q : α → sProp 𝕄} {k : PUnit → Prog (TpuEff nD τ sig (Elt F) Λ₀ .tc) α} :
    AccAny (F := F) c q ⊢ iprop((Acc m ρ c q 0 -∗ WP c (k ⟨⟩) Q)
      -∗ WP c (.op (.load aM (Rect.unit (s := S512x8192) o S512x2048.size hi).toLoadRect hl) fun _ =>
          .op (.store aM (Rect.unit (s := S512x8192) o' S512x2048.size hi') P Finset.univ hl' hm') k) Q) := by
  unfold AccAny Acc
  iintro ⟨%f, Ha⟩ Hk
  iapply (load_acc c q f ho) $$ Ha
  iintro Ha
  iapply (store_acc c q f ho' (fun q => av m ρ c q 0) hP) $$ Ha
  iexact Hk

/-- A later group's store: the block is loaded twice and stored with the product added. -/
theorem acc_next (c : Dev nD) (q : Fin 4) (n : ℕ) {o o2 o' : Fin 2 → ℕ} (ho : o = ![0, 2048 * q.val]) (ho2 : o2 = ![0, 2048 * q.val]) (ho' : o' = ![0, 2048 * q.val])
    {hi hi2 hi' hl hl2 hl' hm'} (P : Vec F S512x2048 .f32 → Vec F S512x2048 .f32) (hP : P (av m ρ c q n) = av m ρ c q (n + 1))
    {α : Type} {Q : α → sProp 𝕄} {k : Vec F S512x2048 .f32 → PUnit → Prog (TpuEff nD τ sig (Elt F) Λ₀ .tc) α} :
    Acc (F := F) m ρ c q n ⊢ iprop((Acc m ρ c q (n + 1) -∗ WP c (k (av m ρ c q n) ⟨⟩) Q)
      -∗ WP c (.op (.load aM (Rect.unit (s := S512x8192) o S512x2048.size hi).toLoadRect hl) fun x =>
          .op (.load aM (Rect.unit (s := S512x8192) o2 S512x2048.size hi2).toLoadRect hl2) fun _ =>
          .op (.store aM (Rect.unit (s := S512x8192) o' S512x2048.size hi') (P x) Finset.univ hl' hm') (k x)) Q) := by
  unfold Acc
  iintro Ha Hk
  iapply (load_acc c q _ ho) $$ Ha
  iintro Ha
  iapply (load_acc c q _ ho2) $$ Ha
  iintro Ha
  rw [read_acc m ρ c n q]
  iapply (store_acc c q _ ho' (fun q => av m ρ c q (n + 1)) hP) $$ Ha
  iexact Hk

end Cert.Proof

end
-- ==== Proof.Signals.lean ====
/-
# Barrier, maxima and result

The barrier signals, the sends and arrivals of the maxima, each guarded by a test that leaves out the own device, and the
copies of the result: each theorem carries the device's state over one such step, whichever way its test falls.
-/
module

public import proofs.«01_k».proof.Proof.Steps

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Products over the devices -/

omit [FloatOps F] in
/-- Over all devices, with nothing for one of them. -/
theorem bigSep_but (c : Fin 8) (R : Fin 8 → sProp 𝕄) :
    (bigSep Finset.univ fun j : Fin 8 => if j = c then iprop(emp) else R j) = bigSep (Finset.univ.erase c) R := by
  conv_lhs => rw [← Finset.insert_erase (Finset.mem_univ c)]
  rw [bigSep_insert (Finset.notMem_erase _ _), if_pos rfl, bigSep_congr (Ψ := R) fun j hj => if_neg (Finset.ne_of_mem_erase hj)]
  exact emp_sep_eq' _

omit [FloatOps F] in
/-- The devices other than `c`, at `c - s` for `s ≠ 0`. -/
theorem bigSep_sub (c : Fin 8) (R : Fin 8 → sProp 𝕄) :
    bigSep (Finset.univ.erase c) R = bigSep (Finset.univ.erase (0 : Fin 8)) fun s => R (c - s) := by
  have e : (Finset.univ.erase c) = (Finset.univ.erase (0 : Fin 8)).map ⟨fun s => c - s, by revert c; decide⟩ := by revert c; decide
  rw [e, bigSep_map]
  rfl

/-! ## The barrier -/

/-- What device `c` needs to signal device `j`: nothing where that is itself. -/
def SigR (c j : Fin 8) : sProp 𝕄 := if j = c then iprop(emp) else iprop(dutyTok ER (barCell j) 0 (c : Fin 8) ∗ barPay (F := F) j c)

/-- The signal to device `j`. -/
theorem signal_step (K : Key → ℕ) (c j : Fin 8) {p : Prop} [Decidable p] (hp : p ↔ c ≠ j) {n : p → Dev nD} (hn : ∀ h, n h = j) {sm : Sem sig} (hs : sm = barS)
    {O O' : CellTallies nD τ sig Unit} (hO : O' = O + if j = c then 0 else tallyAt (barCell j) () 1)
    {α : Type} {Q : α → sProp 𝕄} {k : Prog (TpuEff nD τ sig (Elt F) Λ₀ .tc) α} :
    Ctx (F := F) m ρ K ⊢ iprop(Ow c O' -∗ SigR c j -∗ (Ow c O -∗ WP c k Q)
      -∗ WP c (if h : p then .op (.semSignal ((n h, Proc.tc) : Thread nD τ) sm (1#32).toInt) fun _ => k else k) Q) := by
  subst hs
  by_cases h : p
  · have hj : j ≠ c := fun e => hp.mp h e.symm
    rw [dif_pos h, hn h]
    rw [if_neg hj] at hO
    unfold Ow SigR
    rw [if_neg hj]
    subst hO
    iintro #HC ⟨%W, HO⟩ ⟨Ht, Hp⟩ Hk
    ihave HI := (Ctx_cell m ρ K (j, none)) $$ HC
    icases HI with ⟨#Hc, #Hr⟩
    iapply (Rounds.wp_signal 𝒱₀ ER (Rd m ρ) (c : Thread nD τ) none (dst := (Dev.tc j : Thread nD τ)) (κ := K (j, none)) (sem := barS) (r := 0) (k' := 1)
        (d := (c : Fin 8)) (by rw [duties_bar]; exact Finset.mem_erase.mpr ⟨fun e => hj e.symm, Finset.mem_univ _⟩) (amount_bar m ρ j c) () O rfl (W := W)) $$ [HO Ht Hp]
    · isplitr; · iexact Hc
      isplitl [HO]; · iexact HO
      isplitl [Ht]; · iexact Ht
      isplitl [Hp]; · iapply (Entails.of_eq (payload_bar m ρ j c).symm) $$ Hp
      iexact Hr
    iintro HO
    iapply Hk
    iexists W
    iexact HO
  · have hj : j = c := by by_contra e; exact h (hp.mpr fun e' => e e'.symm)
    rw [dif_neg h]
    rw [if_pos hj, add_zero] at hO
    subst hO
    iintro - HO - Hk
    iapply Hk $$ HO

omit [FloatOps F] in
/-- What the seven signals bring: the other devices' blocks that device `c` fills, and its own row on each of them. -/
theorem bar_split (c : Fin 8) : (bigSep (Finset.univ.erase c) fun p => barPay (F := F) c p)
    ⊢ iprop((bigSep (Finset.univ.erase (0 : Fin 8)) fun s => iprop(∃ f, pts (F := F) (c - s) cc0_scratch1 (rG s).set fullShare f)) ∗
      bigSep Finset.univ fun j : Fin 8 => if j = c then iprop(emp) else iprop(∃ f, pts (F := F) j cc0_scratch5 (rR c).set fullShare f)) := by
  have e : ∀ s : Fin 8, c - (c - s) = s := by revert c; decide
  refine (Entails.of_eq (bigSep_sep' _ (fun p => iprop(∃ f, pts (F := F) p cc0_scratch1 (rG (c - p)).set fullShare f)) fun p => iprop(∃ f, pts (F := F) p cc0_scratch5 (rR c).set fullShare f))).trans ?_
  refine BIClass.sep_mono (Entails.of_eq ((bigSep_sub c _).trans (bigSep_congr fun s _ => ?_))) (Entails.of_eq (bigSep_but c _).symm)
  rw [e]

/-- The wait for the seven signals. -/
theorem bar_wait (K : Key → ℕ) (c : Fin 8) {sm : Sem sig} (hs : sm = barS) {α : Type} {Q : α → sProp 𝕄} {k : PUnit → Prog (TpuEff nD τ sig (Elt F) Λ₀ .tc) α} :
    Ctx (F := F) m ρ K ⊢ iprop(Ow c (OX c 7) -∗ cred (tallyAt (barCell c) () 7) -∗ atPos ER (barCell c) 0 ∅ 0
      -∗ (Ow c (OX c 7) -∗ semVal (barCell c) 0 -∗ (bigSep (Finset.univ.erase (0 : Fin 8)) fun s => iprop(∃ f, pts (c - s) cc0_scratch1 (rG s).set fullShare f))
        -∗ (bigSep Finset.univ fun j : Fin 8 => if j = c then iprop(emp) else iprop(∃ f, pts j cc0_scratch5 (rR c).set fullShare f)) -∗ WP c (k ⟨⟩) Q)
      -∗ WP c (.op (.semWait sm (7#32).toInt) k) Q) := by
  subst hs
  unfold Ow
  iintro #HC ⟨%W, HO⟩ Hcr Hat Hk
  ihave HI := (Ctx_cell m ρ K (c, none)) $$ HC
  icases HI with ⟨#Hc, -⟩
  iapply (Rounds.wp_wait_rest_token 𝒱₀ ER (Rd m ρ) (c : Thread nD τ) none (κ := K (c, none)) (sm := .reg barS) (k' := 7)
      (wpE_semWait_eq 𝒱₀ (c : Thread nD τ) none Set.univ) (Set.mem_univ _) () (O := OX c 7) (W := W) (R := 0) (m := 0) (T := ∅)
      (by rw [expect_bar])) $$ [Hcr HO Hat]
  · isplitr; · iexact Hc
    isplitl [Hcr]; · iexact Hcr
    isplitl [HO]; · iexact HO
    isplitr; · iapply (Ctx_wait m ρ K c (.reg barS) (n := 1) (le_of_eq rfl) (OX_above c 7)) $$ HC
    iexact Hat
  iintro ⟨HO, Hat, -, Hpay⟩
  imod (Rounds.cell_close ER (Rd m ρ) (Set.mem_univ (K (c, none))) (fun h => h) (R := 0 + 1) (duties_later m ρ (barCell c))) $$ [Hat] with Hz
  · isplitr; · iexact Hc
    iexact Hat
  ihave Hpay := (Entails.of_eq (rest_bar m ρ c)) $$ Hpay
  ihave Hpay := (bar_split c) $$ Hpay
  icases Hpay with ⟨Hg, Hr⟩
  iapply Hk $$ [HO] Hz Hg Hr
  iexists _
  iexact HO

/-- A semaphore that no transfer uses is at zero. -/
theorem idle_close (K : Key → ℕ) (c : Fin 8) (a : Fin 4) (i : Fin 8) (h : ¬ Live c a i) {α : Type} {Q : α → sProp 𝕄}
    {k : Prog (TpuEff nD τ sig (Elt F) Λ₀ .tc) α} :
    Ctx (F := F) m ρ K ⊢ iprop(atPos ER (dCell c a i) 0 ∅ 0 -∗ (semVal (dCell c a i) 0 -∗ WP c k Q) -∗ WP c k Q) := by
  iintro #HC Hat Hk
  ihave HI0 := (Ctx_cell m ρ K (c, some (a, i))) $$ HC
  icases HI0 with ⟨#Hc, -⟩
  imod (Rounds.cell_close ER (Rd m ρ) (Set.mem_univ (K (c, some (a, i)))) (fun h => h) (R := 0) (duties_idle m ρ c h)) $$ [Hat] with Hz
  · isplitr; · iexact Hc
    iexact Hat
  iapply Hk $$ Hz

/-! ## The maxima -/

/-- What device `c` needs to send its maximum to device `j`. -/
def MaxR (c j : Fin 8) : sProp 𝕄 :=
  if j = c then iprop(emp) else iprop((dutyTok ER (dCell c 2 j) 0 (0 : Fin 8) ∗ dutyTok ER (dCell j 3 c) 0 (0 : Fin 8)) ∗ ∃ f, pts j cc0_scratch5 (rR c).set fullShare f)
/-- The share of the maximum's buffer for device `j`, or the credit for its return. -/
def MaxS (c j : Fin 8) : sProp 𝕄 :=
  if j = c then pts c cc0_scratch4 Finset.univ (eShare j) (As m ρ c) else cred (tallyAt (dCell c 2 j) () NA)

/-- The send of the maximum to device `j`. -/
theorem max_send (K : Key → ℕ) (c j : Fin 8) {p : Prop} [Decidable p] (hp : p ↔ c ≠ j) {n : p → Dev nD} (hn : ∀ h, n h = j)
    {O O' : CellTallies nD τ sig Unit} (hO : O' = O + if j = c then 0 else tallyAt (dCell j 3 c) () NA)
    {dst : p → Memref sig .tc .vmem S8x128 .f32} (hd : ∀ h, dst h = (rM.slice (rR c) fun _ => rfl).squeeze S8x128 squeezes_S1x8x128_S8x128)
    {sS : DmaSem sig} {rS : p → DmaSem sig} (hS : sS = dsem 2 j) (hR : ∀ h, rS h = dsem 3 c)
    {hsc : ∀ h, (dst h).view.ref.isScScratch = false} {hsrc : eM.view.WordExact} {hdst : ∀ h, (dst h).view.WordExact}
    {hsem : ∀ h, DmaTarget.Typed (p := Proc.tc) .vmem (.dma (rS h)) (.remote (Dev.tc (n h) : Thread nD τ) (dst h) (.dma sS) (hsc h))}
    {α : Type} {Q : α → sProp 𝕄} {k : Prog (TpuEff nD τ sig (Elt F) Λ₀ .tc) α} :
    Ctx (F := F) m ρ K ⊢ iprop(Ow c O' -∗ MaxR c j -∗ pts c cc0_scratch4 Finset.univ (eShare j) (As m ρ c)
      -∗ (Ow c O -∗ MaxS m ρ c j -∗ WP c k Q)
      -∗ WP c (if h : p then .op (.enqueueDma eM (.remote (Dev.tc (n h) : Thread nD τ) (dst h) (.dma sS) (hsc h))
          (.dma (rS h)) hsrc (hdst h) (hsem h)) fun _ => k else k) Q) := by
  subst hS
  by_cases h : p
  · have hj : j ≠ c := fun e => hp.mp h e.symm
    rw [dif_pos h]
    generalize hsc h = hsc'; generalize hdst h = hdst'; generalize hsem h = hsem'
    revert hsc' hdst' hsem'
    rw [hn h, hR h, hd h]
    intro hsc' hdst' hsem'
    rw [if_neg hj] at hO
    subst hO
    have live0 : Live c 2 j := hj
    have live1 : Live j 3 c := fun e => hj e.symm
    unfold Ow MaxR MaxS
    rw [if_neg hj, if_neg hj]
    iintro #HC ⟨%W, HO⟩ ⟨⟨Ht, Htr⟩, ⟨%fd, Hdst⟩⟩ Hsrc Hk
    ihave HI0 := (Ctx_cell m ρ K (c, some (2, j))) $$ HC
    icases HI0 with ⟨#Hc0, #Hr0⟩
    ihave HI1 := (Ctx_cell m ρ K (j, some (3, c))) $$ HC
    icases HI1 with ⟨#Hc1, #Hr1⟩
    iapply (Rounds.wp_send_pointsTo 𝒱₀ ER (Rd m ρ) (c : Thread nD τ) none (κ₁ := K (c, some (2, j))) (κ₂ := K (j, some (3, c)))
      (c' := (Dev.tc j : Thread nD τ)) (src := eM) (dst := (rM.slice (rR c) fun _ => rfl).squeeze S8x128 squeezes_S1x8x128_S8x128) (sS := .dma (dsem 2 j)) (sem := .dma (dsem 3 c))
      (r₁ := 0) (r₂ := 0) (d₁ := (0 : Fin 8)) (d₂ := (0 : Fin 8)) (q := eShare j) (fs := As m ρ c) (fd := fd)
      (by rw [duties_live m ρ c live0]; exact Finset.mem_singleton_self _) (by rw [duties_live m ρ j live1]; exact Finset.mem_singleton_self _)
      () () NA rfl (amount_e m ρ c (by decide) j 0) (amount_e m ρ j (by decide) c 0) O rfl (W := W)
      (Entails.of_eq ((pts_whole c cc0_scratch4 (eShare j) (As m ρ c)).trans (payload_dma m ρ c 2 j 0).symm))
      (Entails.of_eq ((landed_congr c eM ((rM.slice (rR c) fun _ => rfl).squeeze S8x128 squeezes_S1x8x128_S8x128) j (As m ρ c) fd (Ar m ρ j) (read_max m ρ j c (fun e => hj e.symm) (fun _ => rfl) squeezes_S1x8x128_S8x128) fullShare).trans
        ((pts_squeeze j cc0_scratch5 (rR c) (fun _ => rfl) S8x128 squeezes_S1x8x128_S8x128 fullShare (Ar m ρ j)).trans (payload_dma m ρ j 3 c 0).symm)))) $$ [Hsrc Hdst HO Ht Htr]
    · isplitr; · iexact Hc0
      isplitr; · iexact Hc1
      isplitl [Hsrc]; · iapply (Entails.of_eq (pts_whole c cc0_scratch4 (eShare j) (As m ρ c)).symm) $$ Hsrc
      isplitl [Hdst]; · iapply (Entails.of_eq (pts_squeeze j cc0_scratch5 (rR c) (fun _ => rfl) S8x128 squeezes_S1x8x128_S8x128 fullShare fd).symm) $$ Hdst
      isplitl [HO]; · iexact HO
      isplitl [Ht]; · iexact Ht
      isplitr; · iexact Hr0
      isplitl [Htr]; · iexact Htr
      iexact Hr1
    iintro ⟨Hcr, HO⟩
    iapply Hk $$ [HO] Hcr
    iexists W
    iexact HO
  · have hj : j = c := by by_contra e; exact h (hp.mpr fun e' => e e'.symm)
    rw [dif_neg h]
    rw [if_pos hj, add_zero] at hO
    subst hO
    unfold MaxS
    rw [if_pos hj]
    iintro - HO - Hs Hk
    iapply Hk $$ HO Hs

/-- Row `k` of the maxima as device `c` finds it: its own row zero, another's to come. -/
def ArrIn (c k : Fin 8) : sProp 𝕄 :=
  iprop(atPos ER (dCell c 3 k) 0 ∅ 0 ∗ if k = c then pts c cc0_scratch5 (rR k).set fullShare (Ar m ρ c) else cred (tallyAt (dCell c 3 k) () NA))

/-- The arrival of device `k`'s maximum. -/
theorem max_arrive (K : Key → ℕ) (c k : Fin 8) {p : Prop} [Decidable p] (hp : p ↔ c ≠ k)
    {sp sp' : Space} {sh sh' : Shape} {e e' : EltTy} {src : Memref sig .tc sp' sh' e'} {dst : Memref sig .tc sp sh e}
    {hsrc : src.view.WordExact} {hdst : dst.view.WordExact} (hN : dst.view.dmaCredit = NA) {sm : DmaSem sig} (hsm : sm = dsem 3 k)
    {α : Type} {Q : α → sProp 𝕄} {r : Prog (TpuEff nD τ sig (Elt F) Λ₀ .tc) α} :
    Ctx (F := F) m ρ K ⊢ iprop(Ow c 0 -∗ ArrIn m ρ c k
      -∗ (Ow c 0 -∗ semVal (dCell c 3 k) 0 -∗ pts c cc0_scratch5 (rR k).set fullShare (Ar m ρ c) -∗ WP c r Q)
      -∗ WP c (if h : p then .op (.waitDma2 sm src dst hsrc hdst) fun _ => r else r) Q) := by
  unfold ArrIn
  by_cases h : p
  · have hk : k ≠ c := fun e => hp.mp h e.symm
    rw [dif_pos h, if_neg hk]
    iintro #HC HO ⟨Hat, Hcr⟩ Hk
    iapply (wait_cell m ρ K c 3 k hk (le_refl _) (Above.zero _) (src := src) (dst := dst) (hsrc := hsrc) (hdst := hdst) hN (amount_e m ρ c (by decide) k 0) hsm) $$ HC HO Hcr Hat
    iintro HO Hz Hpay
    iapply Hk $$ HO Hz
    iapply (Entails.of_eq (dmaPay_3 m ρ c k)) $$ Hpay
  · have hk : k = c := by by_contra e; exact h (hp.mpr fun e' => e e'.symm)
    rw [dif_neg h, if_pos hk]
    iintro #HC HO ⟨Hat, Hown⟩ Hk
    iapply (idle_close m ρ K c 3 k (fun hl => hl hk)) $$ HC Hat
    iintro Hz
    iapply Hk $$ HO Hz Hown

/-- The return of the share sent to device `j`. -/
theorem max_return (K : Key → ℕ) (c j : Fin 8) {p : Prop} [Decidable p] (hp : p ↔ c ≠ j)
    {sp sp' : Space} {sh sh' : Shape} {e e' : EltTy} {src : p → Memref sig .tc sp' sh' e'} {dst : Memref sig .tc sp sh e}
    {hsrc : ∀ h, (src h).view.WordExact} {hdst : dst.view.WordExact} (hN : dst.view.dmaCredit = NA) {sm : DmaSem sig} (hsm : sm = dsem 2 j)
    {α : Type} {Q : α → sProp 𝕄} {r : Prog (TpuEff nD τ sig (Elt F) Λ₀ .tc) α} :
    Ctx (F := F) m ρ K ⊢ iprop(Ow c 0 -∗ MaxS m ρ c j -∗ atPos ER (dCell c 2 j) 0 ∅ 0
      -∗ (Ow c 0 -∗ semVal (dCell c 2 j) 0 -∗ pts c cc0_scratch4 Finset.univ (eShare j) (As m ρ c) -∗ WP c r Q)
      -∗ WP c (if h : p then .op (.waitDma2 sm (src h) dst (hsrc h) hdst) fun _ => r else r) Q) := by
  unfold MaxS
  by_cases h : p
  · have hj : j ≠ c := fun e => hp.mp h e.symm
    rw [dif_pos h, if_neg hj]
    iintro #HC HO Hcr Hat Hk
    iapply (wait_cell m ρ K c 2 j hj (le_refl _) (Above.zero _) (src := src h) (dst := dst) (hsrc := hsrc h) (hdst := hdst) hN (amount_e m ρ c (by decide) j 0) hsm) $$ HC HO Hcr Hat
    iintro HO Hz Hpay
    iapply Hk $$ HO Hz
    iapply (Entails.of_eq (dmaPay_2 m ρ c j)) $$ Hpay
  · have hj : j = c := by by_contra e; exact h (hp.mpr fun e' => e e'.symm)
    rw [dif_neg h, if_pos hj]
    iintro #HC HO Hs Hat Hk
    iapply (idle_close m ρ K c 2 j (fun hl => hl hj)) $$ HC Hat
    iintro Hz
    iapply Hk $$ HO Hz Hs

/-! ## The result leaves -/

abbrev NO : ℕ := (oM.slice (rA 0) (fun _ => rfl)).view.dmaCredit
theorem NO_pos : 0 < NO := View.dmaCredit_pos _ (by decide)

/-- The copy of column block `q` to the result starts. -/
theorem out_start (c : Fin 8) (q : Fin 4) {o o2 : Fin 2 → ℕ} (ho : o = ![0, 2048 * q.val]) (ho2 : o2 = ![0, 2048 * q.val]) {sS : DmaSem sig} (hS : sS = osm q)
    {hi hi2 hp hp2 hsrc hdst hsem} {α : Type} {Q : α → sProp 𝕄} {k : PUnit → Prog (TpuEff nD τ sig (Elt F) Λ₀ .tc) α} :
    pts c cc0_scratch3 (rA q).set fullShare (colBlocks (ov m ρ c)) ⊢ iprop((∃ f, pts c main_v1 (rA q).set fullShare f) -∗ semVal ((c : Thread nD τ), .dma (osm q)) 0
      -∗ (Fly c (osm q) NO iprop(pts c main_v1 (rA q).set fullShare (Ov m ρ c) ∗ pts c cc0_scratch3 (rA q).set fullShare (colBlocks (ov m ρ c))) -∗ WP c (k ⟨⟩) Q)
      -∗ WP c (.op (.enqueueDma (aM.slice (Rect.unit (s := S512x8192) o S512x2048.size hi) hp)
          (.here (oM.slice (Rect.unit (s := S512x8192) o2 S512x2048.size hi2) hp2)) (.dma sS) hsrc hdst hsem) k) Q) := by
  subst ho; subst hS; subst ho2
  iintro Hs ⟨%fd, Hd⟩ Hv Hk
  iapply (Transfers.wp_dmaLocal EC 𝒱₀ (c : Thread nD τ) none (src := aM.slice (rA q) hp) (dst := oM.slice (rA q) hp2) (sm := .dma (osm q))
    (fs := colBlocks (ov m ρ c)) (fd := fd) (q := fullShare) (Sd := (oM.slice (rA q) hp2).view.set) () NO rfl NO_pos subset_rfl) $$ [Hs Hd Hv]
  · isplitl [Hs]; · iapply (Entails.of_eq (pts_slice c cc0_scratch3 (rA q) hp fullShare (colBlocks (ov m ρ c))).symm) $$ Hs
    isplitl [Hd]; · iapply (Entails.of_eq (pts_slice c main_v1 (rA q) hp2 fullShare fd).symm) $$ Hd
    iexact Hv
  iintro HF
  iapply Hk
  unfold Fly
  iexists _
  isplitr [HF]
  swap; · iexact HF
  ipureintro
  exact BIClass.sep_mono (Entails.of_eq ((landed_same c (aM.slice (rA q) hp) (oM.slice (rA q) hp2) (colBlocks (ov m ρ c)) fd (Ov m ρ c) rfl fullShare).trans
    (pts_slice c main_v1 (rA q) hp2 fullShare (Ov m ρ c)))) (Entails.of_eq (pts_slice c cc0_scratch3 (rA q) hp fullShare (colBlocks (ov m ρ c))))

end Cert.Proof

end
-- ==== Proof.Parts.lean ====
/-
# Parts of the body

The pieces of the kernel's body as the launch applies them.
-/
module

public import proofs.«01_k».proof.Proof.Weights
public import proofs.«01_k».proof.Proof.Signals

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A piece of the body applied to the launch's buffers and semaphores. -/
abbrev on {R : Type 1} (f : (arg0 : Memref sig .tc .vmem S4096x512 .f32) → arg0.IsWhole → (arg1 : Memref sig .tc .hbm S4096x8192 .f32) → arg1.IsWhole
    → (arg2 : Memref sig .tc .hbm S512x8192 .f32) → arg2.IsWhole → (arg3 : Memref sig .tc .vmem S4096x512 .bf16) → arg3.IsWhole
    → (arg4 : Memref sig .tc .vmem S512x4096 .bf16) → arg4.IsWhole → (arg5 : Memref sig .tc .vmem S3x1024x2048 .f32) → arg5.IsWhole
    → (arg6 : Memref sig .tc .vmem S512x8192 .f32) → arg6.IsWhole → (arg7 : Memref sig .tc .vmem S8x128 .f32) → arg7.IsWhole
    → (arg8 : Memref sig .tc .vmem S8x8x128 .f32) → arg8.IsWhole → DmaSems sig S8 → DmaSems sig S8 → DmaSems sig S8 → DmaSems sig S8 → DmaSems sig S3
    → DmaSems sig S_ → DmaSems sig S4 → R) : R :=
  f xM (Memref.isWhole_whole _) wM (Memref.isWhole_whole _) oM (Memref.isWhole_whole _) hM (Memref.isWhole_whole _) gM (Memref.isWhole_whole _)
    bM (Memref.isWhole_whole _) aM (Memref.isWhole_whole _) eM (Memref.isWhole_whole _) rM (Memref.isWhole_whole _)
    cc0_scratch6 cc0_scratch7 cc0_scratch8 cc0_scratch9 cc0_scratch10 cc0_scratch11 cc0_scratch12

/-! ## Where the weights of a step are -/

theorem off3 (c : Fin 8) (r t u : ℕ) (hr : r < 8) (h : t + u = r) : k0_off3 c (BitVec.ofNat 32 r) = ![512 * (kw c t u).val, 2048 * (0 : Fin 4).val] := by
  subst h; rw [k0_off3_eq c ⟨t + u, hr⟩]; show ![512 * ((c.val + (t + u)) % 8), 0] = ![512 * ((c.val + t + u) % 8), 2048 * 0]; rw [Nat.add_assoc]
theorem off4 (c : Fin 8) (r t u : ℕ) (hr : r < 8) (h : t + u = r) : k0_off4 c (BitVec.ofNat 32 r) = ![512 * (kw c t u).val, 2048 * (1 : Fin 4).val] := by
  subst h; rw [k0_off4_eq c ⟨t + u, hr⟩]; show ![512 * ((c.val + (t + u)) % 8), 2048] = ![512 * ((c.val + t + u) % 8), 2048 * 1]; rw [Nat.add_assoc]
theorem off5 (c : Fin 8) (r t u : ℕ) (hr : r < 8) (h : t + u = r) : k0_off5 c (BitVec.ofNat 32 r) = ![512 * (kw c t u).val, 2048 * (2 : Fin 4).val] := by
  subst h; rw [k0_off5_eq c ⟨t + u, hr⟩]; show ![512 * ((c.val + (t + u)) % 8), 4096] = ![512 * ((c.val + t + u) % 8), 2048 * 2]; rw [Nat.add_assoc]
theorem off6 (c : Fin 8) (r t u : ℕ) (hr : r < 8) (h : t + u = r) : k0_off6 c (BitVec.ofNat 32 r) = ![512 * (kw c t u).val, 2048 * (3 : Fin 4).val] := by
  subst h; rw [k0_off6_eq c ⟨t + u, hr⟩]; show ![512 * ((c.val + (t + u)) % 8), 6144] = ![512 * ((c.val + t + u) % 8), 2048 * 3]; rw [Nat.add_assoc]

end Cert.Proof

end
-- ==== Proof.Split.lean ====
/-
# Dividing the buffers

How a device's buffers are divided for the run and put together again at its end.
-/
module

public import proofs.«01_k».proof.Proof.Parts

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A buffer cut into rectangles -/

omit [FloatOps F] in
/-- A whole buffer is its parts, when these are disjoint and cover it. -/
theorem cut {n : ℕ} (c : Dev nD) (b : Ref sig .tc) (S : Fin n → Finset b.ty.Idx) (hd : ∀ t t', t ≠ t' → Disjoint (S t) (S t')) (hc : ∀ i, ∃ t, i ∈ S t)
    (q : PosShare TreeShare) (f : b.ty.Contents (Elt F)) :
    (pts c b Finset.univ q f : sProp 𝕄) = bigSep Finset.univ fun t => pts c b (S t) q f := by
  have h : (Finset.univ : Finset (Fin n)).biUnion S = Finset.univ := Finset.eq_univ_of_forall fun i => by
    obtain ⟨t, ht⟩ := hc i
    exact Finset.mem_biUnion.mpr ⟨t, Finset.mem_univ _, ht⟩
  rw [← pointsTo_biUnion (ℓ := (c : Thread nD τ).loc b) Finset.univ S fun t _ t' _ h => hd t t' h]
  exact congrArg (fun T => (((c : Thread nD τ).loc b) ↦[T]{q} f : sProp 𝕄)) h.symm

omit [FloatOps F] in
/-- Parts at any contents make the whole buffer at some contents. -/
theorem glue {n : ℕ} (c : Dev nD) (b : Ref sig .tc) (S : Fin n → Finset b.ty.Idx) (hd : ∀ t t', t ≠ t' → Disjoint (S t) (S t')) (hc : ∀ i, ∃ t, i ∈ S t)
    (f₀ : b.ty.Contents (Elt F)) :
    (bigSep Finset.univ fun t => iprop(∃ f, pts (F := F) c b (S t) fullShare f)) ⊢ iprop(∃ f, pts (F := F) c b Finset.univ fullShare f) := by
  have h : (Finset.univ : Finset (Fin n)).biUnion S = Finset.univ := Finset.eq_univ_of_forall fun i => by
    obtain ⟨t, ht⟩ := hc i
    exact Finset.mem_biUnion.mpr ⟨t, Finset.mem_univ _, ht⟩
  iintro H
  ihave H := (@BI.bigSep_exists_pi 𝕄 _ _ _ (fun _ : Fin n => b.ty.Contents (Elt F)) (fun _ => ⟨f₀⟩) Finset.univ fun t f => (pts c b (S t) fullShare f : sProp 𝕄)) $$ H
  icases H with ⟨%fs, H⟩
  ihave H := (pointsTo_biUnion_join (ℓ := (c : Thread nD τ).loc b) (q := fullShare) Finset.univ S fs f₀ fun t _ t' _ h => hd t t' h) $$ H
  icases H with ⟨%g, -, H⟩
  iexists g
  rw [← h]
  iexact H

theorem mem_rX {k : Fin 8} {i : S4096x512.Idx} : i ∈ (rX k).set ↔ 512 * k.val ≤ (i 0).val ∧ (i 0).val < 512 * k.val + 512 := by
  have h1 : (i 1).val < 512 := (i 1).isLt
  unfold rX
  rw [Rect.mem_set_unit]
  constructor
  · intro h; exact h 0
  · intro h a
    fin_cases a
    · exact h
    · exact ⟨Nat.zero_le _, by show (i 1).val < 0 + 512; omega⟩

theorem mem_rA {q : Fin 4} {i : S512x8192.Idx} : i ∈ (rA q).set ↔ 2048 * q.val ≤ (i 1).val ∧ (i 1).val < 2048 * q.val + 2048 := by
  have h0 : (i 0).val < 512 := (i 0).isLt
  unfold rA
  rw [Rect.mem_set_unit]
  constructor
  · intro h; exact h 1
  · intro h a
    fin_cases a
    · exact ⟨Nat.zero_le _, by show (i 0).val < 0 + 512; omega⟩
    · exact h

theorem mem_rR {k : Fin 8} {i : S8x8x128.Idx} : i ∈ (rR k).set ↔ (i 0).val = k.val := by
  have h1 : (i 1).val < 8 := (i 1).isLt
  have h2 : (i 2).val < 128 := (i 2).isLt
  unfold rR
  rw [Rect.mem_set_unit]
  constructor
  · intro h
    have h0 : k.val ≤ (i 0).val ∧ (i 0).val < k.val + 1 := h 0
    omega
  · intro h a
    fin_cases a
    · exact ⟨by show k.val ≤ (i 0).val; omega, by show (i 0).val < k.val + 1; omega⟩
    · exact ⟨Nat.zero_le _, by show (i 1).val < 0 + 8; omega⟩
    · exact ⟨Nat.zero_le _, by show (i 2).val < 0 + 128; omega⟩

omit [FloatOps F] in
theorem cutX (c : Dev nD) (q : PosShare TreeShare) (f : (cc0_scratch0 : Ref sig .tc).ty.Contents (Elt F)) :
    (pts c cc0_scratch0 Finset.univ q f : sProp 𝕄) = bigSep Finset.univ fun k : Fin 8 => pts c cc0_scratch0 (rX k).set q f :=
  cut c cc0_scratch0 (fun k : Fin 8 => (rX k).set) (fun k k' h => Finset.disjoint_left.mpr fun i hi hi' => h (Fin.ext (by
    have a := mem_rX.mp hi; have b := mem_rX.mp hi'; omega)))
    (fun i => ⟨⟨((i : S4096x512.Idx) 0).val / 512, by have := ((i : S4096x512.Idx) 0).isLt; have h : ((i : S4096x512.Idx) 0).val < 4096 := this; omega⟩, mem_rX.mpr (by
      show 512 * (((i : S4096x512.Idx) 0).val / 512) ≤ ((i : S4096x512.Idx) 0).val ∧ ((i : S4096x512.Idx) 0).val < 512 * (((i : S4096x512.Idx) 0).val / 512) + 512; omega)⟩) q f

omit [FloatOps F] in
theorem cutG (c : Dev nD) (q : PosShare TreeShare) (f : (cc0_scratch1 : Ref sig .tc).ty.Contents (Elt F)) :
    (pts c cc0_scratch1 Finset.univ q f : sProp 𝕄) = bigSep Finset.univ fun k : Fin 8 => pts c cc0_scratch1 (rG k).set q f :=
  cut c cc0_scratch1 (fun k : Fin 8 => (rG k).set) (fun k k' h => Finset.disjoint_left.mpr fun i hi hi' => h (Fin.ext (by
    have a := mem_rG.mp hi; have b := mem_rG.mp hi'; omega)))
    (fun i => ⟨⟨((i : S512x4096.Idx) 1).val / 512, by have := ((i : S512x4096.Idx) 1).isLt; have h : ((i : S512x4096.Idx) 1).val < 4096 := this; omega⟩, mem_rG.mpr (by
      show 512 * (((i : S512x4096.Idx) 1).val / 512) ≤ ((i : S512x4096.Idx) 1).val ∧ ((i : S512x4096.Idx) 1).val < 512 * (((i : S512x4096.Idx) 1).val / 512) + 512; omega)⟩) q f

theorem rA_disj (k k' : Fin 4) (h : k ≠ k') : Disjoint (rA k).set (rA k').set := Finset.disjoint_left.mpr fun i hi hi' => h (Fin.ext (by
    have a := mem_rA.mp hi; have b := mem_rA.mp hi'; omega))
theorem rA_cover (i : S512x8192.Idx) : ∃ q : Fin 4, i ∈ (rA q).set :=
  ⟨⟨(i 1).val / 2048, by have h : (i 1).val < 8192 := (i 1).isLt; omega⟩, mem_rA.mpr (by
      show 2048 * ((i 1).val / 2048) ≤ (i 1).val ∧ (i 1).val < 2048 * ((i 1).val / 2048) + 2048; omega)⟩

omit [FloatOps F] in
theorem cutA (c : Dev nD) (q : PosShare TreeShare) (f : (cc0_scratch3 : Ref sig .tc).ty.Contents (Elt F)) :
    (pts c cc0_scratch3 Finset.univ q f : sProp 𝕄) = bigSep Finset.univ fun k : Fin 4 => pts c cc0_scratch3 (rA k).set q f :=
  cut c cc0_scratch3 (fun k : Fin 4 => (rA k).set) rA_disj rA_cover q f
omit [FloatOps F] in
theorem cutO (c : Dev nD) (q : PosShare TreeShare) (f : (main_v1 : Ref sig .tc).ty.Contents (Elt F)) :
    (pts c main_v1 Finset.univ q f : sProp 𝕄) = bigSep Finset.univ fun k : Fin 4 => pts c main_v1 (rA k).set q f :=
  cut c main_v1 (fun k : Fin 4 => (rA k).set) rA_disj rA_cover q f

omit [FloatOps F] in
theorem cutR (c : Dev nD) (q : PosShare TreeShare) (f : (cc0_scratch5 : Ref sig .tc).ty.Contents (Elt F)) :
    (pts c cc0_scratch5 Finset.univ q f : sProp 𝕄) = bigSep Finset.univ fun k : Fin 8 => pts c cc0_scratch5 (rR k).set q f :=
  cut c cc0_scratch5 (fun k : Fin 8 => (rR k).set) (fun k k' h => Finset.disjoint_left.mpr fun i hi hi' => h (Fin.ext (by
    have a := mem_rR.mp hi; have b := mem_rR.mp hi'; omega)))
    (fun i => ⟨((i : S8x8x128.Idx) 0 : Fin 8), mem_rR.mpr rfl⟩) q f

/-- Part `j` of the weight slots: half `j % 2` of slot `j / 2`. -/
def slotPart (j : Fin 6) : Finset S3x1024x2048.Idx := (rB (⟨j.val / 2, by omega⟩ : Fin 3) (⟨j.val % 2, by omega⟩ : Fin 2)).set
theorem slotPart_disj (j j' : Fin 6) (h : j ≠ j') : Disjoint (slotPart j) (slotPart j') := Finset.disjoint_left.mpr fun i hi hi' => h (Fin.ext (by
  have a : _ ∧ _ := mem_rB.mp hi
  have b : _ ∧ _ := mem_rB.mp hi'
  have a0 : (i 0).val = j.val / 2 := a.1
  have b0 : (i 0).val = j'.val / 2 := b.1
  have a1 : 512 * (j.val % 2) ≤ (i 1).val ∧ (i 1).val < 512 * (j.val % 2) + 512 := a.2
  have b1 : 512 * (j'.val % 2) ≤ (i 1).val ∧ (i 1).val < 512 * (j'.val % 2) + 512 := b.2
  omega))
theorem slotPart_cover (i : S3x1024x2048.Idx) : ∃ j : Fin 6, i ∈ slotPart j := by
  have h0 : (i 0).val < 3 := (i 0).isLt
  have h1 : (i 1).val < 1024 := (i 1).isLt
  refine ⟨⟨2 * (i 0).val + (i 1).val / 512, by omega⟩, mem_rB.mpr ⟨?_, ?_, ?_⟩⟩
  · show (i 0).val = (2 * (i 0).val + (i 1).val / 512) / 2; omega
  · show 512 * ((2 * (i 0).val + (i 1).val / 512) % 2) ≤ (i 1).val; omega
  · show (i 1).val < 512 * ((2 * (i 0).val + (i 1).val / 512) % 2) + 512; omega

omit [FloatOps F] in
theorem cutB (c : Dev nD) (f : (cc0_scratch2 : Ref sig .tc).ty.Contents (Elt F)) :
    (pts c cc0_scratch2 Finset.univ fullShare f : sProp 𝕄) = bigSep Finset.univ fun j : Fin 6 => pts c cc0_scratch2 (slotPart j) fullShare f :=
  cut c cc0_scratch2 slotPart slotPart_disj slotPart_cover fullShare f

omit [FloatOps F] in
/-- A separating product over six indices, written out. -/
theorem six (R : Fin 6 → sProp 𝕄) : bigSep Finset.univ R = iprop(R 0 ∗ R 1 ∗ R 2 ∗ R 3 ∗ R 4 ∗ R 5) := by
  rw [bigSep_univ_eq_bigSepL [0, 1, 2, 3, 4, 5] (by decide) (by decide)]
  simp only [bigSepL_cons_cons, bigSepL_singleton]
  rfl

omit [FloatOps F] in
/-- The three slots' halves from the whole buffer. -/
theorem halves_intro (c : Dev nD) (f : (cc0_scratch2 : Ref sig .tc).ty.Contents (Elt F)) :
    pts (F := F) c cc0_scratch2 Finset.univ fullShare f
      ⊢ iprop((half c 0 (hf 0) ∗ half c 0 (hf 1)) ∗ (half c 1 (hf 0) ∗ half c 1 (hf 1)) ∗ half c 2 (hf 0) ∗ half (F := F) c 2 (hf 1)) := by
  rw [cutB, six]
  unfold half
  iintro ⟨H0, H1, H2, H3, H4, H5⟩
  isplitl [H0 H1]
  · isplitl [H0]
    · iexists f; iexact H0
    · iexists f; iexact H1
  isplitl [H2 H3]
  · isplitl [H2]
    · iexists f; iexact H2
    · iexists f; iexact H3
  isplitl [H4]
  · iexists f; iexact H4
  · iexists f; iexact H5

omit [FloatOps F] in
/-- The whole buffer from the three slots' halves. -/
theorem halves_elim (c : Dev nD) (f₀ : (cc0_scratch2 : Ref sig .tc).ty.Contents (Elt F)) :
    iprop((half c 0 (hf 0) ∗ half c 0 (hf 1)) ∗ (half c 1 (hf 0) ∗ half c 1 (hf 1)) ∗ half c 2 (hf 0) ∗ half (F := F) c 2 (hf 1))
      ⊢ iprop(∃ f, pts (F := F) c cc0_scratch2 Finset.univ fullShare f) := by
  refine BIBase.Entails.trans ?_ (glue c cc0_scratch2 slotPart slotPart_disj slotPart_cover f₀)
  rw [six]
  unfold half
  iintro ⟨⟨H0, H1⟩, ⟨H2, H3⟩, H4, H5⟩
  isplitl [H0]; · iexact H0
  isplitl [H1]; · iexact H1
  isplitl [H2]; · iexact H2
  isplitl [H3]; · iexact H3
  isplitl [H4]; · iexact H4
  iexact H5

/-! ## The weights, read at six shares -/

/-- The weights at what the six shares leave. -/
def wLeft (c : Dev nD) : sProp 𝕄 := pts (F := F) c main_arg1 Finset.univ (Transfers.shareDrop fullShare 6) (Wt m c)

/-- The weights as the six shares the copies read at, and the rest. -/
theorem weights_cut (c : Dev nD) :
    pts (F := F) c main_arg1 Finset.univ fullShare (Wt m c) ⊣⊢ iprop(wLeft m c ∗ (wTok m c 0 (hf 0) ∗ wTok m c 0 (hf 1)) ∗ (wTok m c 1 (hf 0) ∗ wTok m c 1 (hf 1))
      ∗ wTok m c 2 (hf 0) ∗ wTok m c 2 (hf 1)) := by
  have e : iprop((((c : Thread nD τ).loc main_arg1) ↦[Finset.univ]{Transfers.shareDrop fullShare 6} Wt m c)
      ∗ bigSep Finset.univ fun i : Fin 6 => (((c : Thread nD τ).loc main_arg1) ↦[Finset.univ]{Transfers.shareTok fullShare 6 i} Wt m c : sProp 𝕄))
      = iprop(wLeft m c ∗ wTok m c 0 (hf 0) ∗ wTok m c 0 (hf 1) ∗ wTok m c 1 (hf 0) ∗ wTok m c 1 (hf 1) ∗ wTok m c 2 (hf 0) ∗ wTok m c 2 (hf 1)) := by
    rw [six]; rfl
  constructor
  · refine (Transfers.pointsTo_toks_split fullShare 6).trans ?_
    rw [e]
    iintro ⟨HL, H0, H1, H2, H3, H4, H5⟩
    isplitl [HL]; · iexact HL
    isplitl [H0 H1]
    · isplitl [H0]; · iexact H0
      iexact H1
    isplitl [H2 H3]
    · isplitl [H2]; · iexact H2
      iexact H3
    isplitl [H4]; · iexact H4
    iexact H5
  · refine BIBase.Entails.trans ?_ (Transfers.pointsTo_toks_join fullShare 6)
    rw [e]
    iintro ⟨HL, ⟨H0, H1⟩, ⟨H2, H3⟩, H4, H5⟩
    isplitl [HL]; · iexact HL
    isplitl [H0]; · iexact H0
    isplitl [H1]; · iexact H1
    isplitl [H2]; · iexact H2
    isplitl [H3]; · iexact H3
    isplitl [H4]; · iexact H4
    iexact H5

end Cert.Proof

end
-- ==== Proof.Pre.lean ====
/-
# The start of the body

The body up to the products: the buffers' first contents, the barrier, the exchange of the blocks of x, the copy of the own
block, and the first weights.
-/
module

public import proofs.«01_k».proof.Proof.Split

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Separating products over the devices -/

omit [FloatOps F] in
/-- A separating product over eight indices, written out. -/
theorem eight (R : Fin 8 → sProp 𝕄) : bigSep Finset.univ R = iprop(R 0 ∗ R 1 ∗ R 2 ∗ R 3 ∗ R 4 ∗ R 5 ∗ R 6 ∗ R 7) := by
  rw [bigSep_univ_eq_bigSepL [0, 1, 2, 3, 4, 5, 6, 7] (by decide) (by decide)]
  simp only [bigSepL_cons_cons, bigSepL_singleton]
  rfl

omit [FloatOps F] in
/-- A separating product over the nonzero ones of eight indices, written out. -/
theorem seven (R : Fin 8 → sProp 𝕄) : bigSep (Finset.univ.erase (0 : Fin 8)) R = iprop(R 1 ∗ R 2 ∗ R 3 ∗ R 4 ∗ R 5 ∗ R 6 ∗ R 7) := by
  rw [bigSep_eq_bigSepL_of_eq [1, 2, 3, 4, 5, 6, 7] (by decide) (by decide)]
  simp only [bigSepL_cons_cons, bigSepL_singleton]
  rfl

omit [FloatOps F] in
/-- A separating product over the column blocks, written out. -/
theorem four (R : Fin 4 → sProp 𝕄) : bigSep Finset.univ R = iprop(R 0 ∗ R 1 ∗ R 2 ∗ R 3) := by
  rw [bigSep_univ_eq_bigSepL [0, 1, 2, 3] (by decide) (by decide)]
  simp only [bigSepL_cons_cons, bigSepL_singleton]
  rfl

omit [FloatOps F] in
/-- One index is taken out. -/
theorem take (c : Fin 8) (R : Fin 8 → sProp 𝕄) : bigSep Finset.univ R = iprop(R c ∗ bigSep (Finset.univ.erase c) R) := by
  conv_lhs => rw [← Finset.insert_erase (Finset.mem_univ c)]
  exact bigSep_insert (Finset.notMem_erase _ _)

omit [FloatOps F] in
/-- The nonzero offsets, as the devices other than `c`. -/
theorem bigSep_off (c : Fin 8) (R : Fin 8 → sProp 𝕄) :
    bigSep (Finset.univ.erase (0 : Fin 8)) R = bigSep (Finset.univ.erase c) fun j => R (j - c) := by
  have e : (Finset.univ.erase (0 : Fin 8)) = (Finset.univ.erase c).map ⟨fun j => j - c, by revert c; decide⟩ := by revert c; decide
  rw [e, bigSep_map]
  rfl

/-! ## Whole buffers -/

/-- The device's own index is read. -/
theorem dev_step (c : Dev nD) {α : Type} {Q : α → sProp 𝕄} {k : Dev nD → Prog (TpuEff nD τ sig (Elt F) Λ₀ .tc) α} :
    WP c (k c) Q ⊢ WP c (.op .deviceId k) Q :=
  Entails.of_eq (wp_deviceId 𝒱₀ (c : Thread nD τ) none Set.univ).symm

/-- The end of a piece. -/
theorem ret_step (c : Dev nD) {α : Type} {Q : α → sProp 𝕄} {a : α} : Q a ⊢ WP (F := F) c (.ret a) Q := by
  show Q a ⊢ iprop(|={Set.univ}[_]=> Q a)
  iintro H
  imodintro
  iexact H

/-- A load whose value is known. -/
theorem load_eq (c : Dev nD) {s : Shape} {e : EltTy} (M : Memref sig .tc .vmem s e) {r : LoadRect s} {q : PosShare TreeShare} (f : Buf (Elt F) (M.view.loc (c : Thread nD τ)))
    {v : r.shape.Idx → Elt F e} (hv : M.view.readAt (Elt F) r f = v) {hl} {α : Type} {Q : α → sProp 𝕄} {k : (r.shape.Idx → Elt F e) → Prog (TpuEff nD τ sig (Elt F) Λ₀ .tc) α} :
    (M.view.loc (c : Thread nD τ) ↦[Finset.univ]{q} f : sProp 𝕄) ⊢ iprop(((M.view.loc (c : Thread nD τ) ↦[Finset.univ]{q} f) -∗ WP c (k v) Q)
      -∗ WP c (.op (.load M r hl) k) Q) := by
  subst hv
  exact wp_load 𝒱₀ (c : Thread nD τ) none Set.univ (m := M) (Finset.subset_univ _)

/-- A store whose result is known. -/
theorem store_eq (c : Dev nD) {s : Shape} {e : EltTy} (M : Memref sig .tc .vmem s e) {r : Rect s} (f : Buf (Elt F) ((M.access r).loc (c : Thread nD τ)))
    {w : r.shape.Idx → Elt F e} {g : Buf (Elt F) ((M.access r).loc (c : Thread nD τ))} (hg : (M.access r).write (Elt F) f w Finset.univ = g) {hx hm}
    {α : Type} {Q : α → sProp 𝕄} {k : PUnit → Prog (TpuEff nD τ sig (Elt F) Λ₀ .tc) α} :
    ((M.access r).loc (c : Thread nD τ) ↦[Finset.univ]{fullShare} f : sProp 𝕄) ⊢ iprop((((M.access r).loc (c : Thread nD τ) ↦[Finset.univ]{fullShare} g) -∗ WP c (k ⟨⟩) Q)
      -∗ WP c (.op (.store M r w Finset.univ hx hm) k) Q) := by
  subst hg
  exact wp_store 𝒱₀ (c : Thread nD τ) none Set.univ (m := M) (Finset.subset_univ _)

/-! ## What the signals and the sends carry -/

omit [FloatOps F] in
/-- Known contents are some contents. -/
theorem bigSep_ex {Y : Type} (S : Finset (Fin 8)) (R : Fin 8 → Y → sProp 𝕄) (f : Y) : (bigSep S fun j => R j f) ⊢ bigSep S fun j => iprop(∃ f, R j f) :=
  bigSep_mono fun j _ => show (R j f : sProp 𝕄) ⊢ iprop(∃ f, R j f) from by iintro H; iexists f; iexact H

omit [FloatOps F] in
/-- What device `c`'s signal hands on carries the column block and the row meant for the signalled device. -/
theorem sig_intro (c : Fin 8) (f : (cc0_scratch1 : Ref sig .tc).ty.Contents (Elt F)) (g : (cc0_scratch5 : Ref sig .tc).ty.Contents (Elt F)) :
    iprop((bigSep Finset.univ fun j : Fin 8 => if j = c then iprop(emp) else dutyTok ER (barCell j) 0 c)
        ∗ pts (F := F) c cc0_scratch1 Finset.univ fullShare f ∗ pts (F := F) c cc0_scratch5 Finset.univ fullShare g)
      ⊢ iprop((bigSep Finset.univ fun j => SigR (F := F) c j) ∗ (∃ f, pts (F := F) c cc0_scratch1 (rG 0).set fullShare f) ∗ pts (F := F) c cc0_scratch5 (rR c).set fullShare g) := by
  unfold SigR barPay
  rw [bigSep_but, bigSep_but, cutG, cutR, take 0, take c fun k => pts c cc0_scratch5 (rR k).set fullShare g, bigSep_off c fun k => pts c cc0_scratch1 (rG k).set fullShare f,
    bigSep_sep' (Finset.univ.erase c), bigSep_sep' (Finset.univ.erase c)]
  iintro ⟨Ht, ⟨H0, HG⟩, Hc, HR⟩
  isplitl [Ht HG HR]
  · isplitl [Ht]; · iexact Ht
    isplitl [HG]
    · iapply (bigSep_ex (Finset.univ.erase c) (fun j f => pts c cc0_scratch1 (rG (j - c)).set fullShare f) f) $$ HG
    · iapply (bigSep_ex (Finset.univ.erase c) (fun j g => pts c cc0_scratch5 (rR j).set fullShare g) g) $$ HR
  isplitl [H0]
  · iexists f; iexact H0
  · iexact Hc

/-- A row nobody else writes holds what the device wrote. -/
theorem own_row (c : Fin 8) : (pts c cc0_scratch5 (rR c).set fullShare (k0_pay1 (F := F)) : sProp 𝕄) = pts c cc0_scratch5 (rR c).set fullShare (Ar m ρ c) :=
  pointsTo_congr fun i hi => by
    have h := mem_rR.mp hi
    unfold Ar
    rw [if_pos h]

omit [FloatOps F] in
/-- The duties device `c` pays with the block of offset `s`. -/
def SendT (c s : Fin 8) : sProp 𝕄 := iprop(dutyTok ER (dCell c 0 s) 0 0 ∗ dutyTok ER (dCell (c - s) 1 s) 0 0)

/-- All it sends, at offset `s`. -/
def SendR (c s : Fin 8) : sProp 𝕄 :=
  iprop(SendT (F := F) c s ∗ pts c cc0_scratch0 (rX (c - s)).set fullShare (Xs m ρ c) ∗ ∃ f, pts (F := F) (c - s) cc0_scratch1 (rG s).set fullShare f)

/-- The rounded `x` and the blocks the barrier gave, as what is sent and the own block. -/
theorem send_intro (c : Fin 8) :
    iprop(pts c cc0_scratch0 Finset.univ fullShare (Xs m ρ c) ∗ (bigSep (Finset.univ.erase (0 : Fin 8)) fun s => SendT (F := F) c s)
        ∗ bigSep (Finset.univ.erase (0 : Fin 8)) fun s => iprop(∃ f, pts (F := F) (c - s) cc0_scratch1 (rG s).set fullShare f))
      ⊢ iprop((bigSep (Finset.univ.erase (0 : Fin 8)) fun s => SendR m ρ c s) ∗ pts c cc0_scratch0 (rX c).set fullShare (Xs m ρ c)) := by
  unfold SendR
  rw [cutX, take c, bigSep_sub c, bigSep_sep' (Finset.univ.erase (0 : Fin 8)), bigSep_sep' (Finset.univ.erase (0 : Fin 8))]
  iintro ⟨⟨Hc, HX⟩, HT, HG⟩
  isplitr [Hc]
  · isplitl [HT]; · iexact HT
    isplitl [HX]; · iexact HX
    iexact HG
  · iexact Hc

/-! ## The barrier and the first send -/

/-- The device's position, as the body computes it. -/
def pos (c : Fin 8) : BitVec 32 := Scalar.remsi (Scalar.divsi (Dev.word (c : Dev nD)) 1#32) 8#32

/-- The first contents and the first five signals. -/
theorem enter1 (K : Key → ℕ) (c : Fin 8) {Φ : (Σ' (d0 : Dev nD) (v2 : BitVec 32) (v13 : Sems sig S_), BitVec 32) → sProp 𝕄} :
    Ctx (F := F) m ρ K ⊢ iprop(Ow c (OB c 8) -∗ pts c cc0_stg0_0 Finset.univ fullShare (Xt m ρ c)
      -∗ (∃ f, pts (F := F) c cc0_scratch0 Finset.univ fullShare f) -∗ (∃ f, pts (F := F) c cc0_scratch1 Finset.univ fullShare f)
      -∗ (∃ f, pts (F := F) c cc0_scratch5 Finset.univ fullShare f)
      -∗ (bigSep Finset.univ fun j : Fin 8 => if j = c then iprop(emp) else dutyTok ER (barCell j) 0 c)
      -∗ (Ow c (OB c 3) -∗ pts c cc0_stg0_0 Finset.univ fullShare (Xt m ρ c) -∗ SigR (F := F) c 5 -∗ SigR (F := F) c 6 -∗ SigR (F := F) c 7
        -∗ pts c cc0_scratch0 Finset.univ fullShare (Xs m ρ c) -∗ (∃ f, pts (F := F) c cc0_scratch1 (rG 0).set fullShare f)
        -∗ pts c cc0_scratch5 (rR c).set fullShare (Ar m ρ c)
        -∗ Φ ⟨c, pos c, SemArray.scalar (sig.barrier 0 rfl), Scalar.extui (Scalar.cmpi .ne (pos c) 5#32)⟩)
      -∗ WP c (on (k0_part1 (F := F))) Φ) := by
  rw [k0_part1_eq_skeleton]
  unfold k0_part1_skel
  simp (zeta := false) only [on, semSignalWord, semWaitWord, Prog.lift, Prog.bind_op, Prog.bind_ret, Prog.pure_eq_ret]
  unfold pos
  iintro #HC HO HS ⟨%f0, H0⟩ ⟨%f1, H1⟩ ⟨%f5, H5⟩ HT Hk
  iapply (dev_step c)
  iapply (load_eq c rM f5 (Memref.readAt_unit_zero (Elt F) cc0_scratch5 (by decide) _ f5)) $$ H5
  iintro H5
  iapply (store_eq c rM (r := Rect.unit (s := S8x8x128) ![0, 0, 0] S8x8x128.size inb_S8x8x128_S8x8x128_0_0_0) f5 (Memref.write_access_unit_zero_univ (Elt F) cc0_scratch5 (by decide) _ f5 (k0_pay1 (F := F)))) $$ H5
  iintro H5
  iapply (load_eq c xM (Xt m ρ c) (Memref.readAt_unit_zero (Elt F) cc0_stg0_0 (by decide) _ (Xt m ρ c))) $$ HS
  iintro HS
  iapply (load_eq c hM f0 (Memref.readAt_unit_zero (Elt F) cc0_scratch0 (by decide) _ f0)) $$ H0
  iintro H0
  iapply (store_eq c hM (r := Rect.unit (s := S4096x512) ![0, 0] S4096x512.size inb_S4096x512_S4096x512_0_0) f0 (Memref.write_access_unit_zero_univ (Elt F) cc0_scratch0 (by decide) _ f0 (Xs m ρ c))) $$ H0
  iintro H0
  ihave H := (sig_intro c f1 (k0_pay1 (F := F))) $$ [HT H1 H5]
  · isplitl [HT]; · iexact HT
    isplitl [H1]; · iexact H1
    iexact H5
  rw [eight, own_row m ρ c]
  icases H with ⟨⟨G0, G1, G2, G3, G4, G5, G6, G7⟩, H1, H5⟩
  iapply (signal_step m ρ K c 0 (O' := OB c 8) (O := OB c 7) (by revert c; decide) (fun _ => Fin.ext k0_dev1_eq) rfl rfl) $$ HC HO G0
  iintro HO
  iapply (signal_step m ρ K c 1 (O' := OB c 7) (O := OB c 6) (by revert c; decide) (fun _ => Fin.ext k0_dev2_eq) rfl rfl) $$ HC HO G1
  iintro HO
  iapply (signal_step m ρ K c 2 (O' := OB c 6) (O := OB c 5) (by revert c; decide) (fun _ => Fin.ext k0_dev3_eq) rfl rfl) $$ HC HO G2
  iintro HO
  iapply (signal_step m ρ K c 3 (O' := OB c 5) (O := OB c 4) (by revert c; decide) (fun _ => Fin.ext k0_dev4_eq) rfl rfl) $$ HC HO G3
  iintro HO
  iapply (signal_step m ρ K c 4 (O' := OB c 4) (O := OB c 3) (by revert c; decide) (fun _ => Fin.ext k0_dev5_eq) rfl rfl) $$ HC HO G4
  iintro HO
  iapply (ret_step c)
  iapply Hk $$ HO HS G5 G6 G7 H0 H1 H5

/-- Where the block of offset `s` is. -/
theorem k0_off1_sub (c s : Fin 8) (hs : s ≠ 0) : k0_off1 c (BitVec.ofNat 32 (8 - s.val)) = ![512 * (c - s).val, 0] := by
  revert c s; decide

/-- The last signals, the barrier's wait, and the first send. -/
theorem enter2 (K : Key → ℕ) (c : Fin 8) (e : BitVec 32) {Φ : PUnit → sProp 𝕄} :
    Ctx (F := F) m ρ K ⊢ iprop(Ow c (OB c 3) -∗ SigR (F := F) c 5 -∗ SigR (F := F) c 6 -∗ SigR (F := F) c 7
      -∗ pts c cc0_scratch0 Finset.univ fullShare (Xs m ρ c)
      -∗ (bigSep (Finset.univ.erase (0 : Fin 8)) fun s => SendT (F := F) c s)
      -∗ cred (tallyAt (barCell c) () 7) -∗ atPos ER (barCell c) 0 ∅ 0
      -∗ (Ow c (OX c 6) -∗ semVal (barCell c) 0 -∗ cred (tallyAt (dCell c 0 1) () NX)
        -∗ SendR m ρ c 2 -∗ SendR m ρ c 3 -∗ SendR m ρ c 4 -∗ SendR m ρ c 5 -∗ SendR m ρ c 6 -∗ SendR m ρ c 7
        -∗ pts c cc0_scratch0 (rX c).set fullShare (Xs m ρ c)
        -∗ (bigSep Finset.univ fun j : Fin 8 => if j = c then iprop(emp) else iprop(∃ f, pts (F := F) j cc0_scratch5 (rR c).set fullShare f))
        -∗ Φ ⟨⟩)
      -∗ WP c (on (k0_part2 (F := F)) c (pos c) (SemArray.scalar (sig.barrier 0 rfl)) e) Φ) := by
  rw [k0_part2_eq_skeleton]
  unfold k0_part2_skel
  simp (zeta := false) only [on, semSignalWord, semWaitWord, Prog.lift, Prog.bind_op, Prog.bind_ret, Prog.pure_eq_ret]
  iintro #HC HO G5 G6 G7 H0 HN Hcr Hat Hk
  iapply (signal_step m ρ K c 5 (O' := OB c 3) (O := OB c 2) (by revert c; decide) (fun _ => Fin.ext k0_dev6_eq) rfl rfl) $$ HC HO G5
  iintro HO
  iapply (signal_step m ρ K c 6 (O' := OB c 2) (O := OB c 1) (by revert c; decide) (fun _ => Fin.ext k0_dev7_eq) rfl rfl) $$ HC HO G6
  iintro HO
  iapply (signal_step m ρ K c 7 (O' := OB c 1) (O := OX c 7) (by revert c; decide) (fun _ => Fin.ext k0_dev8_eq) rfl rfl) $$ HC HO G7
  iintro HO
  iapply (bar_wait m ρ K c rfl) $$ HC HO Hcr Hat
  iintro HO Hbar HG HR
  ihave H := (send_intro m ρ c) $$ [H0 HN HG]
  · isplitl [H0]; · iexact H0
    isplitl [HN]; · iexact HN
    iexact HG
  icases H with ⟨HS, Hx⟩
  ihave HS := (Entails.of_eq (seven fun s => SendR m ρ c s)) $$ HS
  icases HS with ⟨S1, S2, S3, S4, S5, S6, S7⟩
  unfold SendR SendT
  icases S1 with ⟨⟨T1, U1⟩, X1, D1⟩
  iapply (send_step m ρ K c 1 (by decide) (O' := OX c 7) (O := OX c 6) rfl (k0_off1_sub c 1 (by decide)) rfl (Fin.ext (by revert c; decide)) rfl rfl) $$ HC HO T1 U1 X1 D1
  iintro C1 HO
  iapply (ret_step c)
  iapply Hk $$ HO Hbar C1 S2 S3 S4 S5 S6 S7 Hx HR

/-! ## The other sends, the own block, and the first weights -/

/-- The other six sends, the copy of the own block, and the first three steps' weights. -/
theorem fill (K : Key → ℕ) (c : Fin 8) (v2 : BitVec 32) {α : Type} {Q : α → sProp 𝕄} {k : Prog (TpuEff nD τ sig (Elt F) Λ₀ .tc) α} :
    Ctx (F := F) m ρ K ⊢ iprop(Ow c (OX c 6)
      -∗ SendR m ρ c 2 -∗ SendR m ρ c 3 -∗ SendR m ρ c 4 -∗ SendR m ρ c 5 -∗ SendR m ρ c 6 -∗ SendR m ρ c 7
      -∗ pts c cc0_scratch0 (rX c).set fullShare (Xs m ρ c) -∗ (∃ f, pts (F := F) c cc0_scratch1 (rG 0).set fullShare f)
      -∗ semVal ((c : Thread nD τ), .dma lsem) 0 -∗ Slot m c 0 -∗ Slot m c 1 -∗ Slot m c 2
      -∗ (Ow c (OA c 8) -∗ cred (tallyAt (dCell c 0 2) () NX) -∗ cred (tallyAt (dCell c 0 3) () NX) -∗ cred (tallyAt (dCell c 0 4) () NX)
        -∗ cred (tallyAt (dCell c 0 5) () NX) -∗ cred (tallyAt (dCell c 0 6) () NX) -∗ cred (tallyAt (dCell c 0 7) () NX)
        -∗ Gath m ρ c 1 -∗ pts c cc0_scratch0 (rX c).set fullShare (Xs m ρ c) -∗ semVal ((c : Thread nD τ), .dma lsem) 0
        -∗ Fly2 m c 0 0 0 -∗ Fly2 m c 1 0 1 -∗ Fly2 m c 2 0 2
        -∗ WP c k Q)
      -∗ WP c (do
          on (k0_part3 (F := F)) c v2
          on (k0_part4 (F := F)) c v2
          on (k0_part5 (F := F)) c v2
          on (k0_part6 (F := F)) c v2
          k) Q) := by
  rw [k0_part3_eq_skeleton, k0_part4_eq_skeleton, k0_part5_eq_skeleton, k0_part6_eq_skeleton]
  unfold k0_part3_skel k0_part4_skel k0_part5_skel k0_part6_skel
  simp only [on, Prog.lift, Prog.bind_op, Prog.bind_ret, Prog.pure_eq_ret]
  unfold SendR SendT
  iintro #HC HO ⟨⟨T2, U2⟩, X2, D2⟩ ⟨⟨T3, U3⟩, X3, D3⟩ ⟨⟨T4, U4⟩, X4, D4⟩ ⟨⟨T5, U5⟩, X5, D5⟩ ⟨⟨T6, U6⟩, X6, D6⟩ ⟨⟨T7, U7⟩, X7, D7⟩ Hx HG Hl S0 S1 S2 Hk
  iapply (send_step m ρ K c 2 (by decide) (O' := OX c 6) (O := OX c 5) rfl (k0_off1_sub c 2 (by decide)) rfl (Fin.ext (by revert c; decide)) rfl rfl) $$ HC HO T2 U2 X2 D2
  iintro C2 HO
  iapply (send_step m ρ K c 3 (by decide) (O' := OX c 5) (O := OX c 4) rfl (k0_off1_sub c 3 (by decide)) rfl (Fin.ext (by revert c; decide)) rfl rfl) $$ HC HO T3 U3 X3 D3
  iintro C3 HO
  iapply (send_step m ρ K c 4 (by decide) (O' := OX c 4) (O := OX c 3) rfl (k0_off1_sub c 4 (by decide)) rfl (Fin.ext (by revert c; decide)) rfl rfl) $$ HC HO T4 U4 X4 D4
  iintro C4 HO
  iapply (send_step m ρ K c 5 (by decide) (O' := OX c 3) (O := OX c 2) rfl (k0_off1_sub c 5 (by decide)) rfl (Fin.ext (by revert c; decide)) rfl rfl) $$ HC HO T5 U5 X5 D5
  iintro C5 HO
  iapply (send_step m ρ K c 6 (by decide) (O' := OX c 2) (O := OX c 1) rfl (k0_off1_sub c 6 (by decide)) rfl (Fin.ext (by revert c; decide)) rfl rfl) $$ HC HO T6 U6 X6 D6
  iintro C6 HO
  iapply (send_step m ρ K c 7 (by decide) (O' := OX c 1) (O := OA c 8) rfl (k0_off1_sub c 7 (by decide)) rfl (Fin.ext (by revert c; decide)) rfl rfl) $$ HC HO T7 U7 X7 D7
  iintro C7 HO
  iapply (own_start m ρ c (k0_off2_eq c) rfl rfl) $$ Hx HG Hl
  iintro HL
  iapply (start2 m c 0 0 0 (off3 c 0 0 0 (by decide) rfl) (off3 c 1 0 1 (by decide) rfl) rfl rfl rfl rfl) $$ S0
  iintro F0
  iapply (start2 m c 1 0 1 (off4 c 0 0 0 (by decide) rfl) (off4 c 1 0 1 (by decide) rfl) rfl rfl rfl rfl) $$ S1
  iintro F1
  iapply (start2 m c 2 0 2 (off5 c 0 0 0 (by decide) rfl) (off5 c 1 0 1 (by decide) rfl) rfl rfl rfl rfl) $$ S2
  iintro F2
  iapply (fly_wait m ρ K c (OA_above c 8) (by rw [lv_own]; decide) (by rfl) rfl) $$ HC HO HL
  iintro HO Hl ⟨HG, Hx⟩
  iapply Hk $$ HO C2 C3 C4 C5 C6 C7 HG Hx Hl F0 F1 F2

end Cert.Proof

end
-- ==== Proof.Mid.lean ====
/-
# The products

The five groups of products. Every step takes its weights and its columns of the gathered buffer, adds its product to the
accumulator, and starts the weights three steps on.
-/
module

public import proofs.«01_k».proof.Proof.Parts

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The first group. -/
theorem group0 (K : Key → ℕ) (c : Fin 8) (v2 : BitVec 32) {α : Type} {Q : α → sProp 𝕄} {k : Prog (TpuEff nD τ sig (Elt F) Λ₀ .tc) α} :
    Ctx (F := F) m ρ K ⊢ iprop(Ow c (OA c 8) -∗ cred (tallyAt (dCell c 1 1) () NX) -∗ atPos ER (dCell c 1 1) 0 ∅ 0 -∗ Gath m ρ c 1
      -∗ Fly2 m c 0 0 0 -∗ Fly2 m c 1 0 1 -∗ Fly2 m c 2 0 2
      -∗ AccAny c 0 -∗ AccAny c 1 -∗ AccAny c 2 -∗ AccAny c 3
      -∗ (Ow c (OA c 8) -∗ semVal (dCell c 1 1) 0 -∗ Gath m ρ c 2 -∗ Fly2 m c 1 2 0 -∗ Fly2 m c 2 2 1 -∗ Fly2 m c 0 2 2
        -∗ Acc m ρ c 0 0 -∗ Acc m ρ c 1 0 -∗ Acc m ρ c 2 0 -∗ Acc m ρ c 3 0 -∗ WP c k Q)
      -∗ WP c (do
          let ⟨a, b⟩ ← on (k0_part7 (F := F)) c v2
          on (k0_part8 (F := F)) c v2 a b
          let a ← on (k0_part9 (F := F)) c v2
          on (k0_part10 (F := F)) c v2 a
          let a ← on (k0_part11 (F := F)) c v2
          on (k0_part12 (F := F)) c v2 a
          k) Q) := by
  rw [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  simp only [on, Prog.lift, Prog.bind_op, Prog.bind_ret, Prog.pure_eq_ret]
  iintro #HC HO C1 P1 HG F0 F1 F2 A0 A1 A2 A3 Hk
  iapply (recv_step m ρ K c 1 (by decide) (n := 1) (n' := 2) rfl rfl rfl rfl) $$ HC HO C1 P1 HG
  iintro HO Z1 HG
  iapply (take2 m ρ K c 0 0 0 0 2 (by decide) (by decide) (by rfl) rfl (by rfl) rfl rfl rfl) $$ HC HO F0 HG
  iintro HO S0 HG
  iapply (acc_first m ρ c 0 rfl rfl rfl) $$ A0
  iintro A0
  iapply (start2 m c 0 0 3 (off6 c 0 0 0 (by decide) rfl) (off6 c 1 0 1 (by decide) rfl) rfl rfl rfl rfl) $$ S0
  iintro F0
  iapply (take2 m ρ K c 1 0 1 0 2 (by decide) (by decide) (by rfl) rfl (by rfl) rfl rfl rfl) $$ HC HO F1 HG
  iintro HO S1 HG
  iapply (acc_first m ρ c 1 rfl rfl rfl) $$ A1
  iintro A1
  iapply (start2 m c 1 2 0 (off3 c 2 2 0 (by decide) rfl) (off3 c 3 2 1 (by decide) rfl) rfl rfl rfl rfl) $$ S1
  iintro F1
  iapply (take2 m ρ K c 2 0 2 0 2 (by decide) (by decide) (by rfl) rfl (by rfl) rfl rfl rfl) $$ HC HO F2 HG
  iintro HO S2 HG
  iapply (acc_first m ρ c 2 rfl rfl rfl) $$ A2
  iintro A2
  iapply (start2 m c 2 2 1 (off4 c 2 2 0 (by decide) rfl) (off4 c 3 2 1 (by decide) rfl) rfl rfl rfl rfl) $$ S2
  iintro F2
  iapply (take2 m ρ K c 0 0 3 0 2 (by decide) (by decide) (by rfl) rfl (by rfl) rfl rfl rfl) $$ HC HO F0 HG
  iintro HO S0 HG
  iapply (acc_first m ρ c 3 rfl rfl rfl) $$ A3
  iintro A3
  iapply (start2 m c 0 2 2 (off5 c 2 2 0 (by decide) rfl) (off5 c 3 2 1 (by decide) rfl) rfl rfl rfl rfl) $$ S0
  iintro F0
  iapply Hk $$ HO Z1 HG F1 F2 F0 A0 A1 A2 A3

/-- The second group, but for the start of the last step's successor. -/
theorem group1 (K : Key → ℕ) (c : Fin 8) (v2 : BitVec 32) {α : Type} {Q : α → sProp 𝕄} {k : Prog (TpuEff nD τ sig (Elt F) Λ₀ .tc) α} :
    Ctx (F := F) m ρ K ⊢ iprop(Ow c (OA c 8) -∗ cred (tallyAt (dCell c 1 2) () NX) -∗ atPos ER (dCell c 1 2) 0 ∅ 0 -∗ cred (tallyAt (dCell c 1 3) () NX) -∗ atPos ER (dCell c 1 3) 0 ∅ 0 -∗ Gath m ρ c 2
      -∗ Fly2 m c 1 2 0 -∗ Fly2 m c 2 2 1 -∗ Fly2 m c 0 2 2
      -∗ Acc m ρ c 0 0 -∗ Acc m ρ c 1 0 -∗ Acc m ρ c 2 0 -∗ Acc m ρ c 3 0
      -∗ (Ow c (OA c 8) -∗ semVal (dCell c 1 2) 0 -∗ semVal (dCell c 1 3) 0 -∗ Gath m ρ c 4 -∗ Fly2 m c 2 4 0 -∗ Fly2 m c 0 4 1 -∗ Slot m c 1
        -∗ Acc m ρ c 0 1 -∗ Acc m ρ c 1 1 -∗ Acc m ρ c 2 1 -∗ Acc m ρ c 3 1 -∗ WP c k Q)
      -∗ WP c (do
          let ⟨a, b⟩ ← on (k0_part13 (F := F)) c v2
          on (k0_part14 (F := F)) c v2 a b
          on (k0_part15 (F := F)) c v2
          let ⟨a, b, d⟩ ← on (k0_part16 (F := F)) c v2
          on (k0_part17 (F := F)) c v2 a b d
          on (k0_part18 (F := F)) c v2
          k) Q) := by
  rw [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  simp only [on, Prog.lift, Prog.bind_op, Prog.bind_ret, Prog.pure_eq_ret]
  iintro #HC HO C2 P2 C3 P3 HG F1 F2 F0 A0 A1 A2 A3 Hk
  iapply (recv_step m ρ K c 2 (by decide) (n := 2) (n' := 3) rfl rfl rfl rfl) $$ HC HO C2 P2 HG
  iintro HO Z2 HG
  iapply (recv_step m ρ K c 3 (by decide) (n := 3) (n' := 4) rfl rfl rfl rfl) $$ HC HO C3 P3 HG
  iintro HO Z3 HG
  iapply (take2 m ρ K c 1 2 0 1 4 (by decide) (by decide) (by rfl) rfl (by rfl) rfl rfl rfl) $$ HC HO F1 HG
  iintro HO S1 HG
  iapply (acc_next m ρ c 0 0 rfl rfl rfl _ (by rfl)) $$ A0
  iintro A0
  iapply (start2 m c 1 2 3 (off6 c 2 2 0 (by decide) rfl) (off6 c 3 2 1 (by decide) rfl) rfl rfl rfl rfl) $$ S1
  iintro F1
  iapply (take2 m ρ K c 2 2 1 1 4 (by decide) (by decide) (by rfl) rfl (by rfl) rfl rfl rfl) $$ HC HO F2 HG
  iintro HO S2 HG
  iapply (acc_next m ρ c 1 0 rfl rfl rfl _ (by rfl)) $$ A1
  iintro A1
  iapply (start2 m c 2 4 0 (off3 c 4 4 0 (by decide) rfl) (off3 c 5 4 1 (by decide) rfl) rfl rfl rfl rfl) $$ S2
  iintro F2
  iapply (take2 m ρ K c 0 2 2 1 4 (by decide) (by decide) (by rfl) rfl (by rfl) rfl rfl rfl) $$ HC HO F0 HG
  iintro HO S0 HG
  iapply (acc_next m ρ c 2 0 rfl rfl rfl _ (by rfl)) $$ A2
  iintro A2
  iapply (start2 m c 0 4 1 (off4 c 4 4 0 (by decide) rfl) (off4 c 5 4 1 (by decide) rfl) rfl rfl rfl rfl) $$ S0
  iintro F0
  iapply (take2 m ρ K c 1 2 3 1 4 (by decide) (by decide) (by rfl) rfl (by rfl) rfl rfl rfl) $$ HC HO F1 HG
  iintro HO S1 HG
  iapply (acc_next m ρ c 3 0 rfl rfl rfl _ (by rfl)) $$ A3
  iintro A3
  iapply Hk $$ HO Z2 Z3 HG F2 F0 S1 A0 A1 A2 A3

/-- The third group, from the start the second left out. -/
theorem group2 (K : Key → ℕ) (c : Fin 8) (v2 : BitVec 32) {α : Type} {Q : α → sProp 𝕄} {k : Prog (TpuEff nD τ sig (Elt F) Λ₀ .tc) α} :
    Ctx (F := F) m ρ K ⊢ iprop(Ow c (OA c 8) -∗ cred (tallyAt (dCell c 1 4) () NX) -∗ atPos ER (dCell c 1 4) 0 ∅ 0 -∗ cred (tallyAt (dCell c 1 5) () NX) -∗ atPos ER (dCell c 1 5) 0 ∅ 0 -∗ Gath m ρ c 4
      -∗ Fly2 m c 2 4 0 -∗ Fly2 m c 0 4 1 -∗ Slot m c 1
      -∗ Acc m ρ c 0 1 -∗ Acc m ρ c 1 1 -∗ Acc m ρ c 2 1 -∗ Acc m ρ c 3 1
      -∗ (Ow c (OA c 8) -∗ semVal (dCell c 1 4) 0 -∗ semVal (dCell c 1 5) 0 -∗ Gath m ρ c 6 -∗ Fly1 m c 0 6 0 -∗ Fly1 m c 1 6 1 -∗ Fly1 m c 2 6 2
        -∗ Acc m ρ c 0 2 -∗ Acc m ρ c 1 2 -∗ Acc m ρ c 2 2 -∗ Acc m ρ c 3 2 -∗ WP c k Q)
      -∗ WP c (do
          on (k0_part19 (F := F)) c v2
          on (k0_part20 (F := F)) c v2
          let a ← on (k0_part21 (F := F)) c v2
          on (k0_part22 (F := F)) c v2 a
          on (k0_part23 (F := F)) c v2
          on (k0_part24 (F := F)) c v2
          k) Q) := by
  rw [k0_part19_eq_skeleton, k0_part20_eq_skeleton, k0_part21_eq_skeleton, k0_part22_eq_skeleton, k0_part23_eq_skeleton, k0_part24_eq_skeleton]
  unfold k0_part19_skel k0_part20_skel k0_part21_skel k0_part22_skel k0_part23_skel k0_part24_skel
  simp only [on, Prog.lift, Prog.bind_op, Prog.bind_ret, Prog.pure_eq_ret]
  iintro #HC HO C4 P4 C5 P5 HG F2 F0 S1 A0 A1 A2 A3 Hk
  iapply (start2 m c 1 4 2 (off5 c 4 4 0 (by decide) rfl) (off5 c 5 4 1 (by decide) rfl) rfl rfl rfl rfl) $$ S1
  iintro F1
  iapply (recv_step m ρ K c 4 (by decide) (n := 4) (n' := 5) rfl rfl rfl rfl) $$ HC HO C4 P4 HG
  iintro HO Z4 HG
  iapply (recv_step m ρ K c 5 (by decide) (n := 5) (n' := 6) rfl rfl rfl rfl) $$ HC HO C5 P5 HG
  iintro HO Z5 HG
  iapply (take2 m ρ K c 2 4 0 2 6 (by decide) (by decide) (by rfl) rfl (by rfl) rfl rfl rfl) $$ HC HO F2 HG
  iintro HO S2 HG
  iapply (acc_next m ρ c 0 1 rfl rfl rfl _ (by rfl)) $$ A0
  iintro A0
  iapply (start2 m c 2 4 3 (off6 c 4 4 0 (by decide) rfl) (off6 c 5 4 1 (by decide) rfl) rfl rfl rfl rfl) $$ S2
  iintro F2
  iapply (take2 m ρ K c 0 4 1 2 6 (by decide) (by decide) (by rfl) rfl (by rfl) rfl rfl rfl) $$ HC HO F0 HG
  iintro HO S0 HG
  iapply (acc_next m ρ c 1 1 rfl rfl rfl _ (by rfl)) $$ A1
  iintro A1
  iapply (start1 m c 0 6 0 (off3 c 6 6 0 (by decide) rfl) rfl rfl) $$ S0
  iintro F0
  iapply (take2 m ρ K c 1 4 2 2 6 (by decide) (by decide) (by rfl) rfl (by rfl) rfl rfl rfl) $$ HC HO F1 HG
  iintro HO S1 HG
  iapply (acc_next m ρ c 2 1 rfl rfl rfl _ (by rfl)) $$ A2
  iintro A2
  iapply (start1 m c 1 6 1 (off4 c 6 6 0 (by decide) rfl) rfl rfl) $$ S1
  iintro F1
  iapply (take2 m ρ K c 2 4 3 2 6 (by decide) (by decide) (by rfl) rfl (by rfl) rfl rfl rfl) $$ HC HO F2 HG
  iintro HO S2 HG
  iapply (acc_next m ρ c 3 1 rfl rfl rfl _ (by rfl)) $$ A3
  iintro A3
  iapply (start1 m c 2 6 2 (off5 c 6 6 0 (by decide) rfl) rfl rfl) $$ S2
  iintro F2
  iapply Hk $$ HO Z4 Z5 HG F0 F1 F2 A0 A1 A2 A3

/-- The fourth group. -/
theorem group3 (K : Key → ℕ) (c : Fin 8) (v2 : BitVec 32) {α : Type} {Q : α → sProp 𝕄} {k : Prog (TpuEff nD τ sig (Elt F) Λ₀ .tc) α} :
    Ctx (F := F) m ρ K ⊢ iprop(Ow c (OA c 8) -∗ cred (tallyAt (dCell c 1 6) () NX) -∗ atPos ER (dCell c 1 6) 0 ∅ 0 -∗ Gath m ρ c 6
      -∗ Fly1 m c 0 6 0 -∗ Fly1 m c 1 6 1 -∗ Fly1 m c 2 6 2
      -∗ Acc m ρ c 0 2 -∗ Acc m ρ c 1 2 -∗ Acc m ρ c 2 2 -∗ Acc m ρ c 3 2
      -∗ (Ow c (OA c 8) -∗ semVal (dCell c 1 6) 0 -∗ Gath m ρ c 7 -∗ Fly1 m c 1 7 0 -∗ Fly1 m c 2 7 1 -∗ Fly1 m c 0 7 2
        -∗ Acc m ρ c 0 3 -∗ Acc m ρ c 1 3 -∗ Acc m ρ c 2 3 -∗ Acc m ρ c 3 3 -∗ WP c k Q)
      -∗ WP c (do
          on (k0_part25 (F := F)) c v2
          let ⟨a, b⟩ ← on (k0_part26 (F := F)) c v2
          on (k0_part27 (F := F)) c v2 a b
          on (k0_part28 (F := F)) c v2
          k) Q) := by
  rw [k0_part25_eq_skeleton, k0_part26_eq_skeleton, k0_part27_eq_skeleton, k0_part28_eq_skeleton]
  unfold k0_part25_skel k0_part26_skel k0_part27_skel k0_part28_skel
  simp only [on, Prog.lift, Prog.bind_op, Prog.bind_ret, Prog.pure_eq_ret]
  iintro #HC HO C6 P6 HG F0 F1 F2 A0 A1 A2 A3 Hk
  iapply (recv_step m ρ K c 6 (by decide) (n := 6) (n' := 7) rfl rfl rfl rfl) $$ HC HO C6 P6 HG
  iintro HO Z6 HG
  iapply (take1 m ρ K c 0 6 0 7 (by decide) (by decide) (by rfl) rfl rfl rfl) $$ HC HO F0 HG
  iintro HO S0 HG
  iapply (acc_next m ρ c 0 2 rfl rfl rfl _ (by rfl)) $$ A0
  iintro A0
  iapply (start1 m c 0 6 3 (off6 c 6 6 0 (by decide) rfl) rfl rfl) $$ S0
  iintro F0
  iapply (take1 m ρ K c 1 6 1 7 (by decide) (by decide) (by rfl) rfl rfl rfl) $$ HC HO F1 HG
  iintro HO S1 HG
  iapply (acc_next m ρ c 1 2 rfl rfl rfl _ (by rfl)) $$ A1
  iintro A1
  iapply (start1 m c 1 7 0 (off3 c 7 7 0 (by decide) rfl) rfl rfl) $$ S1
  iintro F1
  iapply (take1 m ρ K c 2 6 2 7 (by decide) (by decide) (by rfl) rfl rfl rfl) $$ HC HO F2 HG
  iintro HO S2 HG
  iapply (acc_next m ρ c 2 2 rfl rfl rfl _ (by rfl)) $$ A2
  iintro A2
  iapply (start1 m c 2 7 1 (off4 c 7 7 0 (by decide) rfl) rfl rfl) $$ S2
  iintro F2
  iapply (take1 m ρ K c 0 6 3 7 (by decide) (by decide) (by rfl) rfl rfl rfl) $$ HC HO F0 HG
  iintro HO S0 HG
  iapply (acc_next m ρ c 3 2 rfl rfl rfl _ (by rfl)) $$ A3
  iintro A3
  iapply (start1 m c 0 7 2 (off5 c 7 7 0 (by decide) rfl) rfl rfl) $$ S0
  iintro F0
  iapply Hk $$ HO Z6 HG F1 F2 F0 A0 A1 A2 A3

/-- The last group, up to its last store: the running maximum of the first three column blocks, and the last product's factors. -/
theorem group4 (K : Key → ℕ) (c : Fin 8) (v2 : BitVec 32) {α : Type} {Q : α → sProp 𝕄} {k : F .f32 → Vec F S512x512 .bf16 → Vec F S1x512x2048 .f32 → Prog (TpuEff nD τ sig (Elt F) Λ₀ .tc) α} :
    Ctx (F := F) m ρ K ⊢ iprop(Ow c (OA c 8) -∗ cred (tallyAt (dCell c 1 7) () NX) -∗ atPos ER (dCell c 1 7) 0 ∅ 0 -∗ Gath m ρ c 7
      -∗ Fly1 m c 1 7 0 -∗ Fly1 m c 2 7 1 -∗ Fly1 m c 0 7 2
      -∗ Acc m ρ c 0 3 -∗ Acc m ρ c 1 3 -∗ Acc m ρ c 2 3 -∗ Acc m ρ c 3 3
      -∗ (Ow c (OA c 8) -∗ semVal (dCell c 1 7) 0 -∗ Gath m ρ c 8 -∗ Slot m c 0 -∗ Slot m c 1 -∗ Slot m c 2
        -∗ Acc m ρ c 0 4 -∗ Acc m ρ c 1 4 -∗ Acc m ρ c 2 4 -∗ Acc m ρ c 3 3 -∗ WP c (k (mx2 m ρ c) (gOne m ρ c 7) (wOne m c 7 3)) Q)
      -∗ WP c (do
          let a ← on (k0_part29 (F := F)) c v2
          let a ← on (k0_part30 (F := F)) c v2 a
          let ⟨a, b, d⟩ ← on (k0_part31 (F := F)) c v2 a
          k a b d) Q) := by
  rw [k0_part29_eq_skeleton, k0_part30_eq_skeleton, k0_part31_eq_skeleton]
  unfold k0_part29_skel k0_part30_skel k0_part31_skel
  simp only [on, Prog.lift, Prog.bind_op, Prog.bind_ret, Prog.pure_eq_ret]
  iintro #HC HO C7 P7 HG F1 F2 F0 A0 A1 A2 A3 Hk
  iapply (recv_step m ρ K c 7 (by decide) (n := 7) (n' := 8) rfl rfl rfl rfl) $$ HC HO C7 P7 HG
  iintro HO Z7 HG
  iapply (take1 m ρ K c 1 7 0 8 (by decide) (by decide) (by rfl) rfl rfl rfl) $$ HC HO F1 HG
  iintro HO S1 HG
  iapply (acc_next m ρ c 0 3 rfl rfl rfl _ (by rfl)) $$ A0
  iintro A0
  iapply (start1 m c 1 7 3 (off6 c 7 7 0 (by decide) rfl) rfl rfl) $$ S1
  iintro F1
  iapply (take1 m ρ K c 2 7 1 8 (by decide) (by decide) (by rfl) rfl rfl rfl) $$ HC HO F2 HG
  iintro HO S2 HG
  iapply (acc_next m ρ c 1 3 rfl rfl rfl _ (by rfl)) $$ A1
  iintro A1
  iapply (take1 m ρ K c 0 7 2 8 (by decide) (by decide) (by rfl) rfl rfl rfl) $$ HC HO F0 HG
  iintro HO S0 HG
  iapply (acc_next m ρ c 2 3 rfl rfl rfl _ (by rfl)) $$ A2
  iintro A2
  iapply (take1 m ρ K c 1 7 3 8 (by decide) (by decide) (by rfl) rfl rfl rfl) $$ HC HO F1 HG
  iintro HO S1 HG
  iapply Hk $$ HO Z7 HG S0 S1 S2 A0 A1 A2 A3

end Cert.Proof

end
-- ==== Proof.Post.lean ====
/-
# The end of the body

The body after the products: the exchange of the maxima, the quantised result and its copies out, and the waits for what was
sent.
-/
module

public import proofs.«01_k».proof.Proof.Pre
public import proofs.«01_k».proof.Proof.Mid

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Rows and semaphores at the device's own index -/

/-- The row a device's maximum is sent to. -/
theorem row_eq (c : Fin 8) {o : Fin 3 → ℕ} (ho : o = ![c.val, 0, 0]) {hi hp} :
    (rM.slice (Rect.unit (s := S8x8x128) o S1x8x128.size hi) hp).squeeze S8x128 squeezes_S1x8x128_S8x128
      = (rM.slice (rR c) fun _ => rfl).squeeze S8x128 squeezes_S1x8x128_S8x128 := by
  subst ho; rfl

/-- The semaphore its arrival is counted on. -/
theorem arr_sem (c : Fin 8) {o : Fin 1 → ℕ} (ho : o = ![c.val]) {hi} :
    ((cc0_scratch9.slice (Rect.unit (s := S8) o S1.size hi)).squeeze S_ squeezes_S1_S_).sem = dsem 3 c := by
  subst ho; revert c; decide

/-! ## Steps on the accumulator's last value -/

/-- A column block of the accumulator is loaded. -/
theorem acc_load (c : Dev nD) (q : Fin 4) (n : ℕ) {o : Fin 2 → ℕ} (ho : o = ![0, 2048 * q.val]) {hi hl}
    {α : Type} {Q : α → sProp 𝕄} {k : Vec F S512x2048 .f32 → Prog (TpuEff nD τ sig (Elt F) Λ₀ .tc) α} :
    Acc (F := F) m ρ c q n ⊢ iprop((Acc m ρ c q n -∗ WP c (k (av m ρ c q n)) Q)
      -∗ WP c (.op (.load aM (Rect.unit (s := S512x8192) o S512x2048.size hi).toLoadRect hl) k) Q) := by
  unfold Acc
  rw [← read_acc m ρ c n q]
  exact load_acc c q _ ho

/-- A column block of the accumulator, its result computed. -/
def Res (c : Dev nD) (q : Fin 4) : sProp 𝕄 := pts c cc0_scratch3 (rA q).set fullShare (colBlocks (ov m ρ c))

/-- A column block's result is stored. -/
theorem res_store (c : Dev nD) (q : Fin 4) (n : ℕ) {o : Fin 2 → ℕ} (ho : o = ![0, 2048 * q.val]) {w : Vec F S512x2048 .f32} (hw : w = ov m ρ c q) {hi hl hm}
    {α : Type} {Q : α → sProp 𝕄} {k : PUnit → Prog (TpuEff nD τ sig (Elt F) Λ₀ .tc) α} :
    Acc (F := F) m ρ c q n ⊢ iprop((Res m ρ c q -∗ WP c (k ⟨⟩) Q)
      -∗ WP c (.op (.store aM (Rect.unit (s := S512x8192) o S512x2048.size hi) w Finset.univ hl hm) k) Q) := by
  unfold Acc Res
  exact store_acc c q _ ho (ov m ρ c) hw

/-- What the copy out of a column block needs. -/
def OutR (c : Dev nD) (q : Fin 4) : sProp 𝕄 := iprop((∃ f, pts (F := F) c main_v1 (rA q).set fullShare f) ∗ semVal ((c : Thread nD τ), .dma (osm q)) 0)
/-- The copy out under way. -/
def OutF (c : Dev nD) (q : Fin 4) : sProp 𝕄 := Fly c (osm q) NO iprop(pts c main_v1 (rA q).set fullShare (Ov m ρ c) ∗ pts c cc0_scratch3 (rA q).set fullShare (colBlocks (ov m ρ c)))
/-- The column block copied out. -/
def OutD (c : Dev nD) (q : Fin 4) : sProp 𝕄 := iprop(semVal ((c : Thread nD τ), .dma (osm q)) 0 ∗ pts c main_v1 (rA q).set fullShare (Ov m ρ c) ∗ Res m ρ c q)

/-- A column block's copy out starts. -/
theorem out_go (c : Fin 8) (q : Fin 4) {o o2 : Fin 2 → ℕ} (ho : o = ![0, 2048 * q.val]) (ho2 : o2 = ![0, 2048 * q.val]) {sS : DmaSem sig} (hS : sS = osm q)
    {hi hi2 hp hp2 hsrc hdst hsem} {α : Type} {Q : α → sProp 𝕄} {k : PUnit → Prog (TpuEff nD τ sig (Elt F) Λ₀ .tc) α} :
    Res m ρ c q ⊢ iprop(OutR (F := F) c q -∗ (OutF m ρ c q -∗ WP c (k ⟨⟩) Q)
      -∗ WP c (.op (.enqueueDma (aM.slice (Rect.unit (s := S512x8192) o S512x2048.size hi) hp)
          (.here (oM.slice (Rect.unit (s := S512x8192) o2 S512x2048.size hi2) hp2)) (.dma sS) hsrc hdst hsem) k) Q) := by
  unfold Res OutR OutF
  iintro Hr ⟨Ho, Hv⟩ Hk
  iapply (out_start m ρ c q ho ho2 hS) $$ Hr Ho Hv
  iexact Hk

/-- A column block's copy out is done. -/
theorem out_done (K : Key → ℕ) (c : Fin 8) (q : Fin 4) {sp sp' : Space} {sh sh' : Shape} {e e' : EltTy} {src : Memref sig .tc sp' sh' e'} {dst : Memref sig .tc sp sh e}
    {hsrc : src.view.WordExact} {hdst : dst.view.WordExact} (hN : dst.view.dmaCredit = NO) {sS : DmaSem sig} (hS : sS = osm q)
    {α : Type} {Q : α → sProp 𝕄} {k : PUnit → Prog (TpuEff nD τ sig (Elt F) Λ₀ .tc) α} :
    Ctx (F := F) m ρ K ⊢ iprop(Ow c 0 -∗ OutF m ρ c q -∗ (Ow c 0 -∗ OutD m ρ c q -∗ WP c (k ⟨⟩) Q)
      -∗ WP c (.op (.waitDma2 sS src dst hsrc hdst) k) Q) := by
  unfold OutF OutD Res
  iintro #HC HO HF Hk
  iapply (fly_wait m ρ K c (Above.zero 0) (le_of_eq (lv_out c q)) hN hS) $$ HC HO HF
  iintro HO Hv ⟨H1, H2⟩
  iapply Hk $$ HO
  isplitl [Hv]; · iexact Hv
  isplitl [H1]; · iexact H1
  iexact H2

/-! ## The maxima -/

omit [FloatOps F] in
/-- All that is needed to send the maxima. -/
theorem max_intro (c : Fin 8) :
    iprop((bigSep Finset.univ fun j : Fin 8 => if j = c then iprop(emp) else iprop(dutyTok ER (dCell c 2 j) 0 0 ∗ dutyTok ER (dCell j 3 c) 0 0))
        ∗ bigSep Finset.univ fun j : Fin 8 => if j = c then iprop(emp) else iprop(∃ f, pts (F := F) j cc0_scratch5 (rR c).set fullShare f))
      ⊢ bigSep Finset.univ fun j => MaxR (F := F) c j := by
  unfold MaxR
  rw [bigSep_but, bigSep_but, bigSep_but, bigSep_sep' (Finset.univ.erase c) (fun j => iprop(dutyTok ER (dCell c 2 j) 0 0 ∗ dutyTok ER (dCell j 3 c) 0 0))]

/-- What is kept of the buffer the maximum is sent from while it is sent. -/
def ELeft (c : Dev nD) : sProp 𝕄 := pts c cc0_scratch4 Finset.univ (Transfers.shareDrop fullShare 8) (As m ρ c)
/-- The share of it sent to device `j`. -/
def ETok (c : Dev nD) (j : Fin 8) : sProp 𝕄 := pts c cc0_scratch4 Finset.univ (eShare j) (As m ρ c)

/-- The buffer as eight shares and what is kept. -/
theorem shares (c : Dev nD) : (pts c cc0_scratch4 Finset.univ fullShare (As m ρ c) : sProp 𝕄)
    ⊣⊢ iprop(ELeft m ρ c ∗ ETok m ρ c 0 ∗ ETok m ρ c 1 ∗ ETok m ρ c 2 ∗ ETok m ρ c 3 ∗ ETok m ρ c 4 ∗ ETok m ρ c 5 ∗ ETok m ρ c 6 ∗ ETok m ρ c 7) := by
  have e : iprop((((c : Thread nD τ).loc cc0_scratch4) ↦[Finset.univ]{Transfers.shareDrop fullShare 8} As m ρ c)
      ∗ bigSep Finset.univ fun i : Fin 8 => (((c : Thread nD τ).loc cc0_scratch4) ↦[Finset.univ]{Transfers.shareTok fullShare 8 i} As m ρ c : sProp 𝕄))
      = iprop(ELeft m ρ c ∗ ETok m ρ c 0 ∗ ETok m ρ c 1 ∗ ETok m ρ c 2 ∗ ETok m ρ c 3 ∗ ETok m ρ c 4 ∗ ETok m ρ c 5 ∗ ETok m ρ c 6 ∗ ETok m ρ c 7) := by
    rw [eight]; rfl
  rw [← e]
  exact ⟨Transfers.pointsTo_toks_split fullShare 8, Transfers.pointsTo_toks_join fullShare 8⟩

/-- The last column block's last product, the device's own maximum, and its first five sends. -/
theorem maxes1 (K : Key → ℕ) (c : Fin 8) {Φ : (Σ' (v887 : F .f32), BitVec 1) → sProp 𝕄} :
    Ctx (F := F) m ρ K ⊢ iprop(Ow c (OA c 8) -∗ Acc m ρ c 3 3 -∗ (∃ f, pts (F := F) c cc0_scratch4 Finset.univ fullShare f)
      -∗ (bigSep Finset.univ fun j => MaxR (F := F) c j)
      -∗ (Ow c (OA c 3) -∗ Acc m ρ c 3 4 -∗ ELeft m ρ c -∗ MaxS m ρ c 0 -∗ MaxS m ρ c 1 -∗ MaxS m ρ c 2 -∗ MaxS m ρ c 3 -∗ MaxS m ρ c 4 -∗ MaxR (F := F) c 5 -∗ MaxR (F := F) c 6 -∗ MaxR (F := F) c 7 -∗ ETok m ρ c 5 -∗ ETok m ρ c 6 -∗ ETok m ρ c 7
        -∗ Φ ⟨mx3 m ρ c, Scalar.cmpi .ne (pos c) 5#32⟩)
      -∗ WP c (on (k0_part32 (F := F)) c (pos c) (mx2 m ρ c) (gOne m ρ c 7) (wOne m c 7 3)) Φ) := by
  rw [k0_part32_eq_skeleton]
  unfold k0_part32_skel
  simp (zeta := false) only [on, Prog.lift, Prog.bind_op, Prog.bind_ret, Prog.pure_eq_ret]
  iintro #HC HO A3 ⟨%f4, H4⟩ HM Hk
  iapply (acc_next m ρ c 3 3 rfl rfl rfl (k0_pay34 (gOne m ρ c 7) (wOne m c 7 3)) (by rfl)) $$ A3
  iintro A3
  iapply (load_eq c eM f4 (Memref.readAt_unit_zero (Elt F) cc0_scratch4 (by decide) _ f4)) $$ H4
  iintro H4
  iapply (store_eq c eM (r := Rect.unit (s := S8x128) ![0, 0] S8x128.size inb_S8x128_S8x128_0_0) f4
    (Memref.write_access_unit_zero_univ (Elt F) cc0_scratch4 (by decide) _ f4 (As m ρ c))) $$ H4
  iintro H4
  ihave H4 := ((shares m ρ c).1) $$ H4
  icases H4 with ⟨HL, E0, E1, E2, E3, E4, E5, E6, E7⟩
  ihave HM := (Entails.of_eq (eight fun j => MaxR (F := F) c j)) $$ HM
  icases HM with ⟨R0, R1, R2, R3, R4, R5, R6, R7⟩
  unfold ETok mx3
  iapply (max_send m ρ K c 0 (O' := OA c 8) (O := OA c 7) (by revert c; decide) (fun _ => Fin.ext k0_dev16_eq) rfl
    (fun _ => row_eq c (k0_off8_eq c)) rfl (fun _ => arr_sem c (k0_off7_eq c))) $$ HC HO R0 E0
  iintro HO S0
  iapply (max_send m ρ K c 1 (O' := OA c 7) (O := OA c 6) (by revert c; decide) (fun _ => Fin.ext k0_dev17_eq) rfl
    (fun _ => row_eq c (k0_off10_eq c)) rfl (fun _ => arr_sem c (k0_off9_eq c))) $$ HC HO R1 E1
  iintro HO S1
  iapply (max_send m ρ K c 2 (O' := OA c 6) (O := OA c 5) (by revert c; decide) (fun _ => Fin.ext k0_dev18_eq) rfl
    (fun _ => row_eq c (k0_off12_eq c)) rfl (fun _ => arr_sem c (k0_off11_eq c))) $$ HC HO R2 E2
  iintro HO S2
  iapply (max_send m ρ K c 3 (O' := OA c 5) (O := OA c 4) (by revert c; decide) (fun _ => Fin.ext k0_dev19_eq) rfl
    (fun _ => row_eq c (k0_off14_eq c)) rfl (fun _ => arr_sem c (k0_off13_eq c))) $$ HC HO R3 E3
  iintro HO S3
  iapply (max_send m ρ K c 4 (O' := OA c 4) (O := OA c 3) (by revert c; decide) (fun _ => Fin.ext k0_dev20_eq) rfl
    (fun _ => row_eq c (k0_off16_eq c)) rfl (fun _ => arr_sem c (k0_off15_eq c))) $$ HC HO R4 E4
  iintro HO S4
  iapply (ret_step c)
  iapply Hk $$ HO A3 HL S0 S1 S2 S3 S4 R5 R6 R7 E5 E6 E7

/-- A maximum arrived. -/
def ArrD (c k : Fin 8) : sProp 𝕄 := iprop(semVal (dCell c 3 k) 0 ∗ pts c cc0_scratch5 (rR k).set fullShare (Ar m ρ c))

/-- A maximum is waited for. -/
theorem arrive (K : Key → ℕ) (c k : Fin 8) {p : Prop} [Decidable p] (hp : p ↔ c ≠ k)
    {sp sp' : Space} {sh sh' : Shape} {e e' : EltTy} {src : Memref sig .tc sp' sh' e'} {dst : Memref sig .tc sp sh e}
    {hsrc : src.view.WordExact} {hdst : dst.view.WordExact} (hN : dst.view.dmaCredit = NA) {sm : DmaSem sig} (hsm : sm = dsem 3 k)
    {α : Type} {Q : α → sProp 𝕄} {r : Prog (TpuEff nD τ sig (Elt F) Λ₀ .tc) α} :
    Ctx (F := F) m ρ K ⊢ iprop(Ow c 0 -∗ ArrIn m ρ c k -∗ (Ow c 0 -∗ ArrD m ρ c k -∗ WP c r Q)
      -∗ WP c (if h : p then .op (.waitDma2 sm src dst hsrc hdst) fun _ => r else r) Q) := by
  unfold ArrD
  iintro #HC HO HI Hk
  iapply (max_arrive m ρ K c k hp hN hsm) $$ HC HO HI
  iintro HO Hv Hr
  iapply Hk $$ HO
  isplitl [Hv]; · iexact Hv
  iexact Hr

/-- The last three sends and the first seven arrivals. -/
theorem maxes2 (K : Key → ℕ) (c : Fin 8) (b : BitVec 1) {Φ : BitVec 1 → sProp 𝕄} :
    Ctx (F := F) m ρ K ⊢ iprop(Ow c (OA c 3) -∗ MaxR (F := F) c 5 -∗ MaxR (F := F) c 6 -∗ MaxR (F := F) c 7 -∗ ETok m ρ c 5 -∗ ETok m ρ c 6 -∗ ETok m ρ c 7
       -∗ ArrIn m ρ c 0 -∗ ArrIn m ρ c 1 -∗ ArrIn m ρ c 2 -∗ ArrIn m ρ c 3 -∗ ArrIn m ρ c 4 -∗ ArrIn m ρ c 5 -∗ ArrIn m ρ c 6
      -∗ (Ow c 0 -∗ MaxS m ρ c 5 -∗ MaxS m ρ c 6 -∗ MaxS m ρ c 7 -∗ ArrD m ρ c 0 -∗ ArrD m ρ c 1 -∗ ArrD m ρ c 2 -∗ ArrD m ρ c 3 -∗ ArrD m ρ c 4 -∗ ArrD m ρ c 5 -∗ ArrD m ρ c 6 -∗ Φ (Scalar.cmpi .ne (pos c) 7#32))
      -∗ WP c (on (k0_part33 (F := F)) c (pos c) b) Φ) := by
  rw [k0_part33_eq_skeleton]
  unfold k0_part33_skel
  simp (zeta := false) only [on, Prog.lift, Prog.bind_op, Prog.bind_ret, Prog.pure_eq_ret]
  unfold ETok pos
  iintro #HC HO R5 R6 R7 E5 E6 E7 I0 I1 I2 I3 I4 I5 I6 Hk
  iapply (max_send m ρ K c 5 (O' := OA c 3) (O := OA c 2) (by revert c; decide) (fun _ => Fin.ext k0_dev21_eq) rfl
    (fun _ => row_eq c (k0_off18_eq c)) rfl (fun _ => arr_sem c (k0_off17_eq c))) $$ HC HO R5 E5
  iintro HO S5
  iapply (max_send m ρ K c 6 (O' := OA c 2) (O := OA c 1) (by revert c; decide) (fun _ => Fin.ext k0_dev22_eq) rfl
    (fun _ => row_eq c (k0_off20_eq c)) rfl (fun _ => arr_sem c (k0_off19_eq c))) $$ HC HO R6 E6
  iintro HO S6
  iapply (max_send m ρ K c 7 (O' := OA c 1) (O := 0) (by revert c; decide) (fun _ => Fin.ext k0_dev23_eq) rfl
    (fun _ => row_eq c (k0_off22_eq c)) rfl (fun _ => arr_sem c (k0_off21_eq c))) $$ HC HO R7 E7
  iintro HO S7
  iapply (arrive m ρ K c 0 (by revert c; decide) (by rfl) rfl) $$ HC HO I0
  iintro HO D0
  iapply (arrive m ρ K c 1 (by revert c; decide) (by rfl) rfl) $$ HC HO I1
  iintro HO D1
  iapply (arrive m ρ K c 2 (by revert c; decide) (by rfl) rfl) $$ HC HO I2
  iintro HO D2
  iapply (arrive m ρ K c 3 (by revert c; decide) (by rfl) rfl) $$ HC HO I3
  iintro HO D3
  iapply (arrive m ρ K c 4 (by revert c; decide) (by rfl) rfl) $$ HC HO I4
  iintro HO D4
  iapply (arrive m ρ K c 5 (by revert c; decide) (by rfl) rfl) $$ HC HO I5
  iintro HO D5
  iapply (arrive m ρ K c 6 (by revert c; decide) (by rfl) rfl) $$ HC HO I6
  iintro HO D6
  iapply (ret_step c)
  iapply Hk $$ HO S5 S6 S7 D0 D1 D2 D3 D4 D5 D6

/-- The rows, all arrived, are the whole buffer. -/
theorem rows (c : Fin 8) :
    iprop(ArrD m ρ c 0 ∗ ArrD m ρ c 1 ∗ ArrD m ρ c 2 ∗ ArrD m ρ c 3 ∗ ArrD m ρ c 4 ∗ ArrD m ρ c 5 ∗ ArrD m ρ c 6 ∗ ArrD m ρ c 7)
      ⊢ iprop((semVal (dCell c 3 0) 0 ∗ semVal (dCell c 3 1) 0 ∗ semVal (dCell c 3 2) 0 ∗ semVal (dCell c 3 3) 0 ∗ semVal (dCell c 3 4) 0 ∗ semVal (dCell c 3 5) 0 ∗ semVal (dCell c 3 6) 0 ∗ semVal (dCell c 3 7) 0) ∗ pts c cc0_scratch5 Finset.univ fullShare (Ar m ρ c)) := by
  rw [cutR, eight]
  unfold ArrD
  iintro ⟨⟨Z0, H0⟩, ⟨Z1, H1⟩, ⟨Z2, H2⟩, ⟨Z3, H3⟩, ⟨Z4, H4⟩, ⟨Z5, H5⟩, ⟨Z6, H6⟩, ⟨Z7, H7⟩⟩
  isplitl [Z0 Z1 Z2 Z3 Z4 Z5 Z6 Z7]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The result -/

/-- The last arrival, and the first column block's result. -/
theorem result1 (K : Key → ℕ) (c : Fin 8) {Φ : (Σ' (v949 : F .f32) (v950 : F .f32), FVec F S512x2048 .f32) → sProp 𝕄} :
    Ctx (F := F) m ρ K ⊢ iprop(Ow c 0 -∗ ArrIn m ρ c 7 -∗ ArrD m ρ c 0 -∗ ArrD m ρ c 1 -∗ ArrD m ρ c 2 -∗ ArrD m ρ c 3 -∗ ArrD m ρ c 4 -∗ ArrD m ρ c 5 -∗ ArrD m ρ c 6
      -∗ Acc m ρ c 0 4 -∗ Acc m ρ c 1 4 -∗ OutR (F := F) c 0
      -∗ (Ow c 0 -∗ (semVal (dCell c 3 0) 0 ∗ semVal (dCell c 3 1) 0 ∗ semVal (dCell c 3 2) 0 ∗ semVal (dCell c 3 3) 0 ∗ semVal (dCell c 3 4) 0 ∗ semVal (dCell c 3 5) 0 ∗ semVal (dCell c 3 6) 0 ∗ semVal (dCell c 3 7) 0) -∗ pts c cc0_scratch5 Finset.univ fullShare (Ar m ρ c)
        -∗ OutF m ρ c 0 -∗ Acc m ρ c 1 4 -∗ Φ ⟨k0_pay37 (mx3 m ρ c) (Ar m ρ c), k0_pay38 (mx3 m ρ c) (Ar m ρ c), k0_pay40 (mx3 m ρ c) (Ar m ρ c) (av m ρ c 1 4)⟩)
      -∗ WP c (on (k0_part34 (F := F)) (mx3 m ρ c) (Scalar.cmpi .ne (pos c) 7#32)) Φ) := by
  rw [k0_part34_eq_skeleton]
  unfold k0_part34_skel
  simp (zeta := false) only [on, Prog.lift, Prog.bind_op, Prog.bind_ret, Prog.pure_eq_ret]
  unfold pos
  iintro #HC HO I7 D0 D1 D2 D3 D4 D5 D6 A0 A1 O0 Hk
  iapply (arrive m ρ K c 7 (by revert c; decide) (by rfl) rfl) $$ HC HO I7
  iintro HO D7
  ihave H := (rows m ρ c) $$ [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  icases H with ⟨HZ, H5⟩
  iapply (load_eq c rM (Ar m ρ c) (Memref.readAt_unit_zero (Elt F) cc0_scratch5 (by decide) _ (Ar m ρ c))) $$ H5
  iintro H5
  iapply (acc_load m ρ c 0 4 rfl) $$ A0
  iintro A0
  iapply (acc_load m ρ c 0 4 rfl) $$ A0
  iintro A0
  iapply (res_store m ρ c 0 4 rfl rfl) $$ A0
  iintro A0
  iapply (out_go m ρ c 0 rfl rfl rfl) $$ A0 O0
  iintro O0
  iapply (acc_load m ρ c 1 4 rfl) $$ A1
  iintro A1
  iapply (ret_step c)
  iapply Hk $$ HO HZ H5 O0 A1

/-- The other column blocks' results, and the copies out. -/
theorem result2 (K : Key → ℕ) (c : Fin 8) {α : Type} {Q : α → sProp 𝕄} {k : BitVec 32 → Prog (TpuEff nD τ sig (Elt F) Λ₀ .tc) α} :
    Ctx (F := F) m ρ K ⊢ iprop(Ow c 0 -∗ OutF m ρ c 0 -∗ Acc m ρ c 1 4 -∗ Acc m ρ c 2 4 -∗ Acc m ρ c 3 4 -∗ OutR (F := F) c 1 -∗ OutR (F := F) c 2 -∗ OutR (F := F) c 3
      -∗ (Ow c 0 -∗ OutD m ρ c 0 -∗ OutD m ρ c 1 -∗ OutD m ρ c 2 -∗ OutD m ρ c 3 -∗ WP c (k (Scalar.addi (pos c) 7#32)) Q)
      -∗ WP c (do
          let a ← on (k0_part35 (F := F)) (k0_pay37 (mx3 m ρ c) (Ar m ρ c)) (k0_pay38 (mx3 m ρ c) (Ar m ρ c)) (k0_pay40 (mx3 m ρ c) (Ar m ρ c) (av m ρ c 1 4))
          let b ← on (k0_part36 (F := F)) (pos c) (k0_pay37 (mx3 m ρ c) (Ar m ρ c)) a
          k b) Q) := by
  rw [k0_part35_eq_skeleton, k0_part36_eq_skeleton]
  unfold k0_part35_skel k0_part36_skel
  simp only [on, Prog.lift, Prog.bind_op, Prog.bind_ret, Prog.pure_eq_ret]
  iintro #HC HO O0 A1 A2 A3 O1 O2 O3 Hk
  iapply (acc_load m ρ c 1 4 rfl) $$ A1
  iintro A1
  iapply (res_store m ρ c 1 4 rfl rfl) $$ A1
  iintro A1
  iapply (out_go m ρ c 1 rfl rfl rfl) $$ A1 O1
  iintro O1
  iapply (acc_load m ρ c 2 4 rfl) $$ A2
  iintro A2
  iapply (acc_load m ρ c 2 4 rfl) $$ A2
  iintro A2
  iapply (res_store m ρ c 2 4 rfl rfl) $$ A2
  iintro A2
  iapply (out_go m ρ c 2 rfl rfl rfl) $$ A2 O2
  iintro O2
  iapply (acc_load m ρ c 3 4 rfl) $$ A3
  iintro A3
  iapply (acc_load m ρ c 3 4 rfl) $$ A3
  iintro A3
  iapply (res_store m ρ c 3 4 rfl rfl) $$ A3
  iintro A3
  iapply (out_go m ρ c 3 rfl rfl rfl) $$ A3 O3
  iintro O3
  iapply (out_done m ρ K c 0 (by rfl) rfl) $$ HC HO O0
  iintro HO D0
  iapply (out_done m ρ K c 1 (by rfl) rfl) $$ HC HO O1
  iintro HO D1
  iapply (out_done m ρ K c 2 (by rfl) rfl) $$ HC HO O2
  iintro HO D2
  iapply (out_done m ρ K c 3 (by rfl) rfl) $$ HC HO O3
  iintro HO D3
  iapply Hk $$ HO D0 D1 D2 D3

/-! ## What was sent is back -/

/-- A sent block of `x` is back. -/
def SentD (c s : Fin 8) : sProp 𝕄 := iprop(semVal (dCell c 0 s) 0 ∗ pts c cc0_scratch0 (rX (c - s)).set fullShare (Xs m ρ c))
omit [FloatOps F] in
/-- What waiting for it needs. -/
def SentW (c s : Fin 8) : sProp 𝕄 := iprop(cred (tallyAt (dCell c 0 s) () NX) ∗ atPos ER (dCell c 0 s) 0 ∅ 0)

/-- A sent block of `x` is waited for. -/
theorem sent_back (K : Key → ℕ) (c s : Fin 8) (hs : s ≠ 0) {sp sp' : Space} {sh sh' : Shape} {e e' : EltTy} {src : Memref sig .tc sp' sh' e'} {dst : Memref sig .tc sp sh e}
    {hsrc : src.view.WordExact} {hdst : dst.view.WordExact} (hN : dst.view.dmaCredit = NX) {sm : DmaSem sig} (hsm : sm = dsem 0 s)
    {α : Type} {Q : α → sProp 𝕄} {k : PUnit → Prog (TpuEff nD τ sig (Elt F) Λ₀ .tc) α} :
    Ctx (F := F) m ρ K ⊢ iprop(Ow c 0 -∗ SentW (F := F) c s -∗ (Ow c 0 -∗ SentD m ρ c s -∗ WP c (k ⟨⟩) Q)
      -∗ WP c (.op (.waitDma2 sm src dst hsrc hdst) k) Q) := by
  unfold SentW SentD
  iintro #HC HO ⟨Hc, Hp⟩ Hk
  iapply (wait_cell m ρ K c 0 s hs (le_refl _) (Above.zero _) (src := src) (dst := dst) (hsrc := hsrc) (hdst := hdst) hN (amount_x m ρ c (by decide) s 0) hsm) $$ HC HO Hc Hp
  iintro HO Hv Hd
  iapply Hk $$ HO
  isplitl [Hv]; · iexact Hv
  iapply (Entails.of_eq (dmaPay_0 m ρ c s)) $$ Hd

/-- The seven blocks sent. -/
theorem returns (K : Key → ℕ) (c : Fin 8) (b : BitVec 32) {α : Type} {Q : α → sProp 𝕄} {k : BitVec 32 → Prog (TpuEff nD τ sig (Elt F) Λ₀ .tc) α} :
    Ctx (F := F) m ρ K ⊢ iprop(Ow c 0 -∗ SentW (F := F) c 1 -∗ SentW (F := F) c 2 -∗ SentW (F := F) c 3 -∗ SentW (F := F) c 4 -∗ SentW (F := F) c 5 -∗ SentW (F := F) c 6 -∗ SentW (F := F) c 7
      -∗ (Ow c 0 -∗ SentD m ρ c 1 -∗ SentD m ρ c 2 -∗ SentD m ρ c 3 -∗ SentD m ρ c 4 -∗ SentD m ρ c 5 -∗ SentD m ρ c 6 -∗ SentD m ρ c 7 -∗ WP c (k (Scalar.extui (Scalar.cmpi .ne (pos c) 0#32))) Q)
      -∗ WP c (do
          on (k0_part37 (F := F)) c (pos c) b
          let x ← on (k0_part38 (F := F)) c (pos c)
          k x) Q) := by
  rw [k0_part37_eq_skeleton, k0_part38_eq_skeleton]
  unfold k0_part37_skel k0_part38_skel
  simp only [on, Prog.lift, Prog.bind_op, Prog.bind_ret, Prog.pure_eq_ret]
  iintro #HC HO W1 W2 W3 W4 W5 W6 W7 Hk
  iapply (sent_back m ρ K c 1 (by decide) (by rfl) rfl) $$ HC HO W1
  iintro HO D1
  iapply (sent_back m ρ K c 2 (by decide) (by rfl) rfl) $$ HC HO W2
  iintro HO D2
  iapply (sent_back m ρ K c 3 (by decide) (by rfl) rfl) $$ HC HO W3
  iintro HO D3
  iapply (sent_back m ρ K c 4 (by decide) (by rfl) rfl) $$ HC HO W4
  iintro HO D4
  iapply (sent_back m ρ K c 5 (by decide) (by rfl) rfl) $$ HC HO W5
  iintro HO D5
  iapply (sent_back m ρ K c 6 (by decide) (by rfl) rfl) $$ HC HO W6
  iintro HO D6
  iapply (sent_back m ρ K c 7 (by decide) (by rfl) rfl) $$ HC HO W7
  iintro HO D7
  iapply Hk $$ HO D1 D2 D3 D4 D5 D6 D7

end Cert.Proof

end
-- ==== Proof.Body.lean ====
/-
# The whole body

What the body starts from and what it leaves, and its run.
-/
module

public import proofs.«01_k».proof.Proof.Post

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Sequencing -/

/-- A piece, then the rest. -/
theorem bind_step (c : Dev nD) {α β : Type} {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q :=
  Entails.of_eq (wp_bind ..).symm

/-! ## What the body starts from -/

omit [FloatOps F] in
/-- The tokens of the duties device `c` pays: its barrier signals, -/
def BarT (c : Fin 8) : sProp 𝕄 := bigSep Finset.univ fun j : Fin 8 => if j = c then iprop(emp) else dutyTok ER (barCell j) 0 c
/-- its blocks of `x`, -/
def SendTs (c : Fin 8) : sProp 𝕄 := bigSep (Finset.univ.erase (0 : Fin 8)) fun s => SendT (F := F) c s
/-- its maxima. -/
def MaxT (c : Fin 8) : sProp 𝕄 :=
  bigSep Finset.univ fun j : Fin 8 => if j = c then iprop(emp) else iprop(dutyTok ER (dCell c 2 j) 0 0 ∗ dutyTok ER (dCell j 3 c) 0 0)
/-- Device `c` stands at the start of array `a`'s cells. -/
def AtA (c : Fin 8) (a : Fin 4) : sProp 𝕄 := bigSep Finset.univ fun i : Fin 8 => atPos ER (dCell c a i) 0 ∅ 0
/-- The credits of the blocks of `x` it is to get, -/
def XCr (c : Fin 8) : sProp 𝕄 := bigSep (Finset.univ.erase (0 : Fin 8)) fun s => cred (tallyAt (dCell c 1 s) () NX)
/-- and of the maxima. -/
def ACr (c : Fin 8) : sProp 𝕄 := bigSep Finset.univ fun k : Fin 8 => if k = c then iprop(emp) else cred (tallyAt (dCell c 3 k) () NA)
/-- The semaphores of array `a` at zero. -/
def ZeroA (c : Fin 8) (a : Fin 4) : sProp 𝕄 := bigSep Finset.univ fun i : Fin 8 => semVal (dCell c a i) 0

/-- Buffer `b` whole, at some contents. -/
abbrev some_ (c : Dev nD) (b : Ref sig .tc) : sProp 𝕄 := iprop(∃ f, pts (F := F) c b Finset.univ fullShare f)

/-- What the body starts from. -/
def Begin (c : Fin 8) : sProp 𝕄 :=
  iprop(Ow c (OB c 8) ∗ pts c cc0_stg0_0 Finset.univ fullShare (Xt m ρ c) ∗ some_ (F := F) c cc0_scratch0 ∗ some_ (F := F) c cc0_scratch1
    ∗ some_ (F := F) c cc0_scratch5 ∗ some_ (F := F) c cc0_scratch4 ∗ BarT (F := F) c ∗ SendTs (F := F) c ∗ MaxT (F := F) c
    ∗ cred (tallyAt (barCell c) () 7) ∗ atPos ER (barCell c) 0 ∅ 0 ∗ AtA (F := F) c 0 ∗ AtA (F := F) c 1 ∗ AtA (F := F) c 2 ∗ AtA (F := F) c 3
    ∗ XCr (F := F) c ∗ ACr (F := F) c ∗ semVal ((c : Thread nD τ), .dma lsem) 0 ∗ (Slot m c 0 ∗ Slot m c 1 ∗ Slot m c 2)
    ∗ (AccAny (F := F) c 0 ∗ AccAny (F := F) c 1 ∗ AccAny (F := F) c 2 ∗ AccAny (F := F) c 3)
    ∗ OutR (F := F) c 0 ∗ OutR (F := F) c 1 ∗ OutR (F := F) c 2 ∗ OutR (F := F) c 3)

/-- What it leaves. -/
def End (c : Fin 8) : sProp 𝕄 :=
  iprop(Ow c 0 ∗ pts c cc0_stg0_0 Finset.univ fullShare (Xt m ρ c) ∗ semVal (barCell c) 0
    ∗ ZeroA (F := F) c 0 ∗ ZeroA (F := F) c 1 ∗ ZeroA (F := F) c 2 ∗ ZeroA (F := F) c 3 ∗ semVal ((c : Thread nD τ), .dma lsem) 0
    ∗ (Slot m c 0 ∗ Slot m c 1 ∗ Slot m c 2)
    ∗ (semVal ((c : Thread nD τ), .dma (osm 0)) 0 ∗ semVal ((c : Thread nD τ), .dma (osm 1)) 0 ∗ semVal ((c : Thread nD τ), .dma (osm 2)) 0 ∗ semVal ((c : Thread nD τ), .dma (osm 3)) 0)
    ∗ pts c cc0_scratch0 Finset.univ fullShare (Xs m ρ c) ∗ Gath m ρ c 8 ∗ pts c cc0_scratch3 Finset.univ fullShare (colBlocks (ov m ρ c))
    ∗ pts c cc0_scratch4 Finset.univ fullShare (As m ρ c) ∗ pts c cc0_scratch5 Finset.univ fullShare (Ar m ρ c)
    ∗ pts c main_v1 Finset.univ fullShare (Ov m ρ c))

/-- What is left once the sends of `x` are back: the returns of the maxima to devices 0 to 7 are still to come. -/
def Late (c : Fin 8) : sProp 𝕄 :=
  iprop((MaxS m ρ c 4 ∗ MaxS m ρ c 5 ∗ MaxS m ρ c 6 ∗ MaxS m ρ c 7)
    ∗ (atPos ER (dCell c 2 4) 0 ∅ 0 ∗ atPos ER (dCell c 2 5) 0 ∅ 0 ∗ atPos ER (dCell c 2 6) 0 ∅ 0 ∗ atPos ER (dCell c 2 7) 0 ∅ 0)
    ∗ (semVal (dCell c 2 0) 0 ∗ semVal (dCell c 2 1) 0 ∗ semVal (dCell c 2 2) 0 ∗ semVal (dCell c 2 3) 0)
    ∗ ELeft m ρ c ∗ ETok m ρ c 0 ∗ ETok m ρ c 1 ∗ ETok m ρ c 2 ∗ ETok m ρ c 3
    ∗ Ow c 0 ∗ pts c cc0_stg0_0 Finset.univ fullShare (Xt m ρ c) ∗ semVal (barCell c) 0
    ∗ ZeroA (F := F) c 0 ∗ ZeroA (F := F) c 1 ∗ ZeroA (F := F) c 3 ∗ semVal ((c : Thread nD τ), .dma lsem) 0
    ∗ (Slot m c 0 ∗ Slot m c 1 ∗ Slot m c 2)
    ∗ (OutD m ρ c 0 ∗ OutD m ρ c 1 ∗ OutD m ρ c 2 ∗ OutD m ρ c 3)
    ∗ pts c cc0_scratch0 Finset.univ fullShare (Xs m ρ c) ∗ Gath m ρ c 8
    ∗ pts c cc0_scratch5 Finset.univ fullShare (Ar m ρ c))

/-! ## Joins -/

/-- The rounded `x` whole again. -/
theorem x_back (c : Fin 8) :
    iprop(pts c cc0_scratch0 (rX c).set fullShare (Xs m ρ c) ∗ semVal (dCell c 0 0) 0 ∗ bigSep (Finset.univ.erase (0 : Fin 8)) fun s => SentD m ρ c s)
      ⊢ iprop(ZeroA (F := F) c 0 ∗ pts c cc0_scratch0 Finset.univ fullShare (Xs m ρ c)) := by
  unfold SentD ZeroA
  rw [cutX, take c fun k => pts c cc0_scratch0 (rX k).set fullShare (Xs m ρ c), bigSep_sub c fun k => pts c cc0_scratch0 (rX k).set fullShare (Xs m ρ c), take 0, bigSep_sep' (Finset.univ.erase (0 : Fin 8))]
  iintro ⟨Hc, Hz, HZ, HX⟩
  isplitl [Hz HZ]
  · isplitl [Hz]; · iexact Hz
    iexact HZ
  · isplitl [Hc]; · iexact Hc
    iexact HX

/-- The result, and the buffer it is copied from, whole again. -/
theorem out_back (c : Fin 8) :
    iprop(OutD m ρ c 0 ∗ OutD m ρ c 1 ∗ OutD m ρ c 2 ∗ OutD m ρ c 3)
      ⊢ iprop((semVal ((c : Thread nD τ), .dma (osm 0)) 0 ∗ semVal ((c : Thread nD τ), .dma (osm 1)) 0 ∗ semVal ((c : Thread nD τ), .dma (osm 2)) 0 ∗ semVal ((c : Thread nD τ), .dma (osm 3)) 0)
        ∗ pts c cc0_scratch3 Finset.univ fullShare (colBlocks (ov m ρ c)) ∗ pts c main_v1 Finset.univ fullShare (Ov m ρ c)) := by
  rw [cutO, cutA, four, four]
  unfold OutD Res
  iintro ⟨⟨S0, O0, A0⟩, ⟨S1, O1, A1⟩, ⟨S2, O2, A2⟩, S3, O3, A3⟩
  isplitl [S0 S1 S2 S3]
  · isplitl [S0]; · iexact S0
    isplitl [S1]; · iexact S1
    isplitl [S2]; · iexact S2
    iexact S3
  isplitl [A0 A1 A2 A3]
  · isplitl [A0]; · iexact A0
    isplitl [A1]; · iexact A1
    isplitl [A2]; · iexact A2
    iexact A3
  · isplitl [O0]; · iexact O0
    isplitl [O1]; · iexact O1
    isplitl [O2]; · iexact O2
    iexact O3

/-- The maxima to arrive: each at its cell's start, with its credit or, for the device's own, its row. -/
theorem arr_intro (c : Fin 8) :
    iprop(AtA (F := F) c 3 ∗ ACr (F := F) c ∗ pts c cc0_scratch5 (rR c).set fullShare (Ar m ρ c)) ⊢ bigSep Finset.univ fun k => ArrIn m ρ c k := by
  unfold AtA ACr ArrIn
  rw [bigSep_sep' Finset.univ, bigSep_but, take c fun k => (if k = c then pts c cc0_scratch5 (rR k).set fullShare (Ar m ρ c) else cred (tallyAt (dCell c 3 k) () NA) : sProp 𝕄),
    if_pos rfl, bigSep_congr (s := Finset.univ.erase c) (fun k hk => if_neg (Finset.ne_of_mem_erase hk))]
  iintro ⟨HA, HC, HR⟩
  isplitl [HA]; · iexact HA
  isplitl [HR]; · iexact HR
  iexact HC

/-- The last group's first part, whatever is done with its three values. -/
theorem group4' (K : Key → ℕ) (c : Fin 8) (v2 : BitVec 32) {α : Type} {Q : α → sProp 𝕄} {k : (Σ' (_ : F .f32) (_ : Vec F S512x512 .bf16), Vec F S1x512x2048 .f32) → Prog (TpuEff nD τ sig (Elt F) Λ₀ .tc) α} :
    Ctx (F := F) m ρ K ⊢ iprop(Ow c (OA c 8) -∗ cred (tallyAt (dCell c 1 7) () NX) -∗ atPos ER (dCell c 1 7) 0 ∅ 0 -∗ Gath m ρ c 7
      -∗ Fly1 m c 1 7 0 -∗ Fly1 m c 2 7 1 -∗ Fly1 m c 0 7 2
      -∗ Acc m ρ c 0 3 -∗ Acc m ρ c 1 3 -∗ Acc m ρ c 2 3 -∗ Acc m ρ c 3 3
      -∗ (Ow c (OA c 8) -∗ semVal (dCell c 1 7) 0 -∗ Gath m ρ c 8 -∗ Slot m c 0 -∗ Slot m c 1 -∗ Slot m c 2
        -∗ Acc m ρ c 0 4 -∗ Acc m ρ c 1 4 -∗ Acc m ρ c 2 4 -∗ Acc m ρ c 3 3 -∗ WP c (k ⟨mx2 m ρ c, gOne m ρ c 7, wOne m c 7 3⟩) Q)
      -∗ WP c (do
          let a ← on (k0_part29 (F := F)) c v2
          let b ← on (k0_part30 (F := F)) c v2 a
          let d ← on (k0_part31 (F := F)) c v2 b
          k d) Q) :=
  group4 m ρ K c v2 (k := fun a b d => k ⟨a, b, d⟩)

/-! ## The body up to the returns of the maxima to devices 0 to 3 -/

theorem most (K : Key → ℕ) (c : Fin 8) {Φ : (Σ' (d0 : Dev nD) (v2 : BitVec 32), BitVec 32) → sProp 𝕄} :
    Ctx (F := F) m ρ K ⊢ iprop(Begin m ρ c -∗ (Late m ρ c -∗ Φ ⟨c, pos c, 4#32⟩) -∗ WP c (on (k0_part39 (F := F))) Φ) := by
  rw [k0_part39_eq_skeleton]
  unfold k0_part39_skel
  simp (zeta := false) only [on, Prog.lift, Prog.bind_op, Prog.bind_ret, Prog.pure_eq_ret]
  unfold Begin BarT SendTs
  iintro #HC ⟨HO, Hstg, H0, H1, H5, H4, HBT, HST, HMT, Hcb, Hab, A0, A1, A2, A3, HXC, HAC, Hl, ⟨S0, S1, S2⟩, ⟨B0, B1, B2, B3⟩, R0, R1, R2, R3⟩ Hk
  iapply (bind_step c)
  iapply (enter1 m ρ K c) $$ HC HO Hstg H0 H1 H5 HBT
  iintro HO Hstg G5 G6 G7 H0 H1 H5
  iapply (bind_step c)
  iapply (enter2 m ρ K c _) $$ HC HO G5 G6 G7 H0 HST Hcb Hab
  iintro HO Hbar C1 T2 T3 T4 T5 T6 T7 H0 HR
  iapply (fill m ρ K c (pos c)) $$ HC HO T2 T3 T4 T5 T6 T7 H0 H1 Hl S0 S1 S2
  iintro HO C2 C3 C4 C5 C6 C7 HG H0 Hl S0 S1 S2
  unfold XCr AtA
  ihave HXC := (Entails.of_eq (seven fun s => (cred (tallyAt (dCell c 1 s) () NX) : sProp 𝕄))) $$ HXC
  icases HXC with ⟨X1, X2, X3, X4, X5, X6, X7⟩
  ihave A1 := (Entails.of_eq (eight fun i => (atPos ER (dCell c 1 i) 0 ∅ 0 : sProp 𝕄))) $$ A1
  icases A1 with ⟨P0, P1, P2, P3, P4, P5, P6, P7⟩
  iapply (group0 m ρ K c (pos c)) $$ HC HO X1 P1 HG S0 S1 S2 B0 B1 B2 B3
  iintro HO Z1 HG S0 S1 S2 B0 B1 B2 B3
  iapply (group1 m ρ K c (pos c)) $$ HC HO X2 P2 X3 P3 HG S0 S1 S2 B0 B1 B2 B3
  iintro HO Z2 Z3 HG S0 S1 S2 B0 B1 B2 B3
  iapply (group2 m ρ K c (pos c)) $$ HC HO X4 P4 X5 P5 HG S0 S1 S2 B0 B1 B2 B3
  iintro HO Z4 Z5 HG S0 S1 S2 B0 B1 B2 B3
  iapply (group3 m ρ K c (pos c)) $$ HC HO X6 P6 HG S0 S1 S2 B0 B1 B2 B3
  iintro HO Z6 HG S0 S1 S2 B0 B1 B2 B3
  iapply (group4' m ρ K c (pos c)) $$ HC HO X7 P7 HG S0 S1 S2 B0 B1 B2 B3
  iintro HO Z7 HG S0 S1 S2 B0 B1 B2 B3
  ihave HM := (max_intro (F := F) c) $$ [HMT HR]
  · isplitl [HMT]
    · unfold MaxT; iexact HMT
    · iexact HR
  iapply (bind_step c)
  iapply (maxes1 m ρ K c) $$ HC HO B3 H4 HM
  iintro HO B3 HL M0 M1 M2 M3 M4 Q5 Q6 Q7 E5 E6 E7
  ihave HI := (arr_intro m ρ c) $$ [A3 HAC H5]
  · isplitl [A3]
    · unfold AtA; iexact A3
    isplitl [HAC]; · iexact HAC
    iexact H5
  ihave HI := (Entails.of_eq (eight fun k => ArrIn m ρ c k)) $$ HI
  icases HI with ⟨I0, I1, I2, I3, I4, I5, I6, I7⟩
  iapply (bind_step c)
  iapply (maxes2 m ρ K c _) $$ HC HO Q5 Q6 Q7 E5 E6 E7 I0 I1 I2 I3 I4 I5 I6
  iintro HO M5 M6 M7 D0 D1 D2 D3 D4 D5 D6
  iapply (bind_step c)
  iapply (result1 m ρ K c) $$ HC HO I7 D0 D1 D2 D3 D4 D5 D6 B0 B1 R0
  iintro HO HZ3 H5 F0 B1
  iapply (result2 m ρ K c) $$ HC HO F0 B1 B2 B3 R1 R2 R3
  iintro HO F0 F1 F2 F3
  ihave A0 := (Entails.of_eq (eight fun i => (atPos ER (dCell c 0 i) 0 ∅ 0 : sProp 𝕄))) $$ A0
  icases A0 with ⟨N0, N1, N2, N3, N4, N5, N6, N7⟩
  iapply (returns m ρ K c _) $$ HC HO [C1 N1] [C2 N2] [C3 N3] [C4 N4] [C5 N5] [C6 N6] [C7 N7]
  · unfold SentW; isplitl [C1] <;> iassumption
  · unfold SentW; isplitl [C2] <;> iassumption
  · unfold SentW; isplitl [C3] <;> iassumption
  · unfold SentW; isplitl [C4] <;> iassumption
  · unfold SentW; isplitl [C5] <;> iassumption
  · unfold SentW; isplitl [C6] <;> iassumption
  · unfold SentW; isplitl [C7] <;> iassumption
  iintro HO D1 D2 D3 D4 D5 D6 D7
  ihave A2 := (Entails.of_eq (eight fun i => (atPos ER (dCell c 2 i) 0 ∅ 0 : sProp 𝕄))) $$ A2
  icases A2 with ⟨V0, V1, V2, V3, V4, V5, V6, V7⟩
  iapply (max_return m ρ K c 0 (by revert c; decide) (by rfl) rfl) $$ HC HO M0 V0
  iintro HO W0 E0
  iapply (max_return m ρ K c 1 (by revert c; decide) (by rfl) rfl) $$ HC HO M1 V1
  iintro HO W1 E1
  iapply (max_return m ρ K c 2 (by revert c; decide) (by rfl) rfl) $$ HC HO M2 V2
  iintro HO W2 E2
  iapply (max_return m ρ K c 3 (by revert c; decide) (by rfl) rfl) $$ HC HO M3 V3
  iintro HO W3 E3
  iapply (idle_close m ρ K c 0 0 (fun h => h rfl)) $$ HC N0
  iintro N0
  iapply (idle_close m ρ K c 1 0 (fun h => h rfl)) $$ HC P0
  iintro P0
  ihave HX := (x_back m ρ c) $$ [H0 N0 D1 D2 D3 D4 D5 D6 D7]
  · isplitl [H0]; · iexact H0
    isplitl [N0]; · iexact N0
    rw [seven]
    isplitl [D1]; · iexact D1
    isplitl [D2]; · iexact D2
    isplitl [D3]; · iexact D3
    isplitl [D4]; · iexact D4
    isplitl [D5]; · iexact D5
    isplitl [D6]; · iexact D6
    iexact D7
  icases HX with ⟨HZ0, H0⟩
  iapply (ret_step c)
  iapply Hk
  unfold Late
  isplitl [M4 M5 M6 M7]
  · isplitl [M4]; · iexact M4
    isplitl [M5]; · iexact M5
    isplitl [M6]; · iexact M6
    iexact M7
  isplitl [V4 V5 V6 V7]
  · isplitl [V4]; · iexact V4
    isplitl [V5]; · iexact V5
    isplitl [V6]; · iexact V6
    iexact V7
  isplitl [W0 W1 W2 W3]
  · isplitl [W0]; · iexact W0
    isplitl [W1]; · iexact W1
    isplitl [W2]; · iexact W2
    iexact W3
  unfold ETok
  isplitl [HL]; · iexact HL
  isplitl [E0]; · iexact E0
  isplitl [E1]; · iexact E1
  isplitl [E2]; · iexact E2
  isplitl [E3]; · iexact E3
  isplitl [HO]; · iexact HO
  isplitl [Hstg]; · iexact Hstg
  isplitl [Hbar]; · iexact Hbar
  isplitl [HZ0]; · iexact HZ0
  isplitl [P0 Z1 Z2 Z3 Z4 Z5 Z6 Z7]
  · unfold ZeroA
    rw [eight]
    isplitl [P0]; · iexact P0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  isplitl [HZ3]
  · unfold ZeroA
    rw [eight]
    iexact HZ3
  isplitl [Hl]; · iexact Hl
  isplitl [S0 S1 S2]
  · isplitl [S0]; · iexact S0
    isplitl [S1]; · iexact S1
    iexact S2
  isplitl [F0 F1 F2 F3]
  · isplitl [F0]; · iexact F0
    isplitl [F1]; · iexact F1
    isplitl [F2]; · iexact F2
    iexact F3
  isplitl [H0]; · iexact H0
  isplitl [HG]; · iexact HG
  iexact H5

/-! ## The body -/

/-- The body: from `Begin` it runs to the end and leaves `End`. -/
theorem body_run (K : Key → ℕ) (c : Fin 8) {Q : PUnit → sProp 𝕄} :
    Ctx (F := F) m ρ K ⊢ iprop(Begin m ρ c -∗ (End m ρ c -∗ Q ⟨⟩) -∗ WP c (on (cc0_body (F := F))) Q) := by
  rw [cc0_body_eq_skeleton]
  unfold cc0_body_skel
  simp (zeta := false) only [on, Prog.lift, Prog.bind_op, Prog.bind_ret, Prog.pure_eq_ret]
  iintro #HC HB Hk
  iapply (bind_step c)
  iapply (most m ρ K c) $$ HC HB
  unfold Late
  iintro ⟨⟨M4, M5, M6, M7⟩, ⟨V4, V5, V6, V7⟩, ⟨W0, W1, W2, W3⟩, HL, E0, E1, E2, E3, HO, Hstg, Hbar, HZ0, HZ1, HZ3, Hl, HS, HF, H0, HG, H5⟩
  iapply (max_return m ρ K c 4 (by revert c; decide) (by rfl) rfl) $$ HC HO M4 V4
  iintro HO W4 E4
  iapply (max_return m ρ K c 5 (by revert c; decide) (by rfl) rfl) $$ HC HO M5 V5
  iintro HO W5 E5
  iapply (max_return m ρ K c 6 (by revert c; decide) (by rfl) rfl) $$ HC HO M6 V6
  iintro HO W6 E6
  iapply (max_return m ρ K c 7 (by revert c; decide) (by rfl) rfl) $$ HC HO M7 V7
  iintro HO W7 E7
  ihave H4 := ((shares m ρ c).2) $$ [HL E0 E1 E2 E3 E4 E5 E6 E7]
  · isplitl [HL]; · iexact HL
    isplitl [E0]; · iexact E0
    isplitl [E1]; · iexact E1
    isplitl [E2]; · iexact E2
    isplitl [E3]; · iexact E3
    unfold ETok
    isplitl [E4]; · iexact E4
    isplitl [E5]; · iexact E5
    isplitl [E6]; · iexact E6
    iexact E7
  ihave HF := (out_back m ρ c) $$ HF
  icases HF with ⟨HF, H3, Hv⟩
  iapply (ret_step c)
  iapply Hk
  unfold End
  isplitl [HO]; · iexact HO
  isplitl [Hstg]; · iexact Hstg
  isplitl [Hbar]; · iexact Hbar
  isplitl [HZ0]; · iexact HZ0
  isplitl [HZ1]; · iexact HZ1
  isplitl [W0 W1 W2 W3 W4 W5 W6 W7]
  · unfold ZeroA
    rw [eight]
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [HZ3]; · iexact HZ3
  isplitl [Hl]; · iexact Hl
  isplitl [HS]; · iexact HS
  isplitl [HF]; · iexact HF
  isplitl [H0]; · iexact H0
  isplitl [HG]; · iexact HG
  isplitl [H3]; · iexact H3
  isplitl [H4]; · iexact H4
  isplitl [H5]; · iexact H5
  iexact Hv

end Cert.Proof

end
-- ==== Proof.Fund.lean ====
/-
# Credits and tokens at launch

What the devices owe each other's cells at launch, summed over the devices, and the launch's ghost state shared out: each device gets its cells' positions
and the tokens of the duties it pays.
-/
module

public import proofs.«01_k».proof.Proof.Body

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What is owed a cell -/

theorem dCell_eq {c c' : Dev nD} {a a' : Fin 4} {i i' : Fin 8} : Iff (dCell c a i = dCell c' a' i') (c = c' ∧ a = a' ∧ i = i') := by
  constructor
  · intro h
    have h1 : c = c' := congrArg (fun g : GSem nD τ sig => g.1.1) h
    have h2 : dsem a i = dsem a' i' := SemLoc.dma.inj (congrArg Prod.snd h)
    refine ⟨h1, ?_, ?_⟩
    · rw [← arrOf_dsem a i, h2, arrOf_dsem]
    · rw [← idxOf_dsem a i, h2, idxOf_dsem]
  · rintro ⟨rfl, rfl, rfl⟩; rfl
theorem barCell_eq {c c' : Dev nD} : Iff (barCell c = barCell c') (c = c') :=
  ⟨fun h => congrArg (fun g : GSem nD τ sig => g.1.1) h, fun h => h ▸ rfl⟩
theorem bar_ne {c c' : Dev nD} {a : Fin 4} {i : Fin 8} : barCell c ≠ dCell c' a i := fun h => by cases congrArg Prod.snd h

theorem ofNat_val (n : ℕ) (c : Fin 8) (h : n < 8) : Iff (c = Fin.ofNat 8 (7 - n)) (c.val + n = 7) := by
  have hv : (Fin.ofNat 8 (7 - n)).val = 7 - n := Nat.mod_eq_of_lt (by omega)
  constructor
  · intro e; have := congrArg Fin.val e; omega
  · intro e; apply Fin.ext; omega

/-- Owed the barrier of `c`: by the maxima nothing, -/
theorem OA_bar (d c : Fin 8) (n : ℕ) : OA d n (barCell c) () = 0 := by
  induction n with
  | zero => rfl
  | succ n ih =>
    rw [OA, Pi.add_apply, Finsupp.add_apply, ih]
    split
    · rfl
    · rw [tallyAt_ne_cell bar_ne]; rfl
/-- by the blocks of `x` nothing, -/
theorem OX_bar (d c : Fin 8) (n : ℕ) : OX d n (barCell c) () = 0 := by
  induction n with
  | zero => exact OA_bar d c 8
  | succ n ih => rw [OX, Pi.add_apply, Finsupp.add_apply, ih, tallyAt_ne_cell bar_ne]; rfl
/-- by the signals one unit. -/
theorem OB_bar (d c : Fin 8) (n : ℕ) (hn : n ≤ 8) : OB d n (barCell c) () = if c ≠ d ∧ 8 ≤ c.val + n then 1 else 0 := by
  induction n with
  | zero =>
    rw [if_neg (fun h => by have := c.isLt; omega)]
    exact OX_bar d c 7
  | succ n ih =>
    have hv := ofNat_val n c (by omega)
    rw [OB, Pi.add_apply, Finsupp.add_apply, ih (by omega)]
    by_cases e : c = Fin.ofNat 8 (7 - n)
    · rw [← e, if_neg (fun h => by have := hv.mp e; omega)]
      by_cases hcd : c = d
      · rw [if_pos hcd, if_neg (fun h => h.1 hcd)]; rfl
      · rw [if_neg hcd, tallyAt_apply, if_pos ⟨rfl, rfl⟩, if_pos ⟨hcd, by have := hv.mp e; omega⟩]
    · have hz : ((if Fin.ofNat 8 (7 - n) = d then 0 else tallyAt (barCell (Fin.ofNat 8 (7 - n))) () 1 : CellTallies nD τ sig Unit) (barCell c) ()) = 0 := by
        split
        · rfl
        · rw [tallyAt_ne_cell (fun h => e (barCell_eq.mp h))]; rfl
      rw [hz, Nat.add_zero]
      refine if_congr ⟨fun h => ⟨h.1, by omega⟩, fun h => ⟨h.1, ?_⟩⟩ rfl rfl
      rcases Nat.lt_or_ge (c.val + n) 8 with hlt | hge
      · exact absurd (hv.mpr (by have := h.2; omega)) e
      · exact hge

/-- Owed an arrival cell of blocks of `x`: by the maxima nothing, -/
theorem OA_x (d c s : Fin 8) (n : ℕ) : OA d n (dCell c 1 s) () = 0 := by
  induction n with
  | zero => rfl
  | succ n ih =>
    rw [OA, Pi.add_apply, Finsupp.add_apply, ih]
    split
    · rfl
    · rw [tallyAt_ne_cell (fun h => absurd (dCell_eq.mp h).2.1 (by decide))]; rfl
/-- by the device `s` above a block's credit, -/
theorem OX_x (d c s : Fin 8) (n : ℕ) (hn : n ≤ 7) : OX d n (dCell c 1 s) () = if c = d - s ∧ 8 ≤ s.val + n then NX else 0 := by
  induction n with
  | zero =>
    rw [if_neg (fun h => by have := s.isLt; omega)]
    exact OA_x d c s 8
  | succ n ih =>
    have hv := ofNat_val n s (by omega)
    rw [OX, Pi.add_apply, Finsupp.add_apply, ih (by omega), tallyAt_apply]
    by_cases e : s = Fin.ofNat 8 (7 - n)
    · rw [if_neg (fun h => by have := hv.mp e; omega)]
      refine (Nat.zero_add _).trans (if_congr ⟨fun h => ⟨?_, by have := hv.mp e; omega⟩, fun h => ⟨dCell_eq.mpr ⟨?_, rfl, e⟩, rfl⟩⟩ rfl rfl)
      · exact (dCell_eq.mp h.1).1.trans (congrArg (fun k : Fin 8 => (d : Fin 8) - k) e.symm)
      · exact h.1.trans (congrArg (fun k : Fin 8 => (d : Fin 8) - k) e)
    · refine (congrArg (_ + ·) (if_neg fun h => e (dCell_eq.mp h.1).2.2)).trans ?_
      refine if_congr ⟨fun h => ⟨h.1, by omega⟩, fun h => ⟨h.1, ?_⟩⟩ rfl rfl
      rcases Nat.lt_or_ge (s.val + n) 8 with hlt | hge
      · exact absurd (hv.mpr (by have := h.2; omega)) e
      · exact hge
/-- by the signals nothing more. -/
theorem OB_dma (d c : Fin 8) (a : Fin 4) (i : Fin 8) (n : ℕ) : OB d n (dCell c a i) () = OX d 7 (dCell c a i) () := by
  induction n with
  | zero => rfl
  | succ n ih =>
    rw [OB, Pi.add_apply, Finsupp.add_apply, ih]
    split
    · rfl
    · rw [tallyAt_ne_cell (fun h => bar_ne h.symm)]; rfl

/-- Owed an arrival cell of maxima: by the device it is for its credit, -/
theorem OA_a (d c k : Fin 8) (n : ℕ) (hn : n ≤ 8) : OA d n (dCell c 3 k) () = if k = d ∧ c ≠ d ∧ 8 ≤ c.val + n then NA else 0 := by
  induction n with
  | zero =>
    rw [if_neg (fun h => by have := c.isLt; omega)]
    rfl
  | succ n ih =>
    have hv := ofNat_val n c (by omega)
    rw [OA, Pi.add_apply, Finsupp.add_apply, ih (by omega)]
    by_cases e : c = Fin.ofNat 8 (7 - n)
    · rw [← e, if_neg (fun h => by have := hv.mp e; omega), Nat.zero_add]
      by_cases hcd : c = d
      · rw [if_pos hcd, if_neg (fun h => h.2.1 hcd)]; rfl
      · rw [if_neg hcd, tallyAt_apply]
        refine if_congr ⟨fun h => ⟨(dCell_eq.mp h.1).2.2, hcd, by have := hv.mp e; omega⟩, fun h => ⟨dCell_eq.mpr ⟨rfl, rfl, h.1⟩, rfl⟩⟩ rfl rfl
    · have hz : ((if Fin.ofNat 8 (7 - n) = d then 0 else tallyAt (dCell (Fin.ofNat 8 (7 - n)) 3 d) () NA : CellTallies nD τ sig Unit) (dCell c 3 k) ()) = 0 := by
        split
        · rfl
        · rw [tallyAt_ne_cell (fun h => e (dCell_eq.mp h).1)]; rfl
      rw [hz, Nat.add_zero]
      refine if_congr ⟨fun h => ⟨h.1, h.2.1, by omega⟩, fun h => ⟨h.1, h.2.1, ?_⟩⟩ rfl rfl
      rcases Nat.lt_or_ge (c.val + n) 8 with hlt | hge
      · exact absurd (hv.mpr (by have := h.2.2; omega)) e
      · exact hge
/-- by the blocks of `x` nothing more. -/
theorem OX_a (d c k : Fin 8) (n : ℕ) : OX d n (dCell c 3 k) () = OA d 8 (dCell c 3 k) () := by
  induction n with
  | zero => rfl
  | succ n ih => rw [OX, Pi.add_apply, Finsupp.add_apply, ih, tallyAt_ne_cell (fun h => absurd (dCell_eq.mp h).2.1 (by decide))]; rfl

/-! ## The launch's credits -/

/-- A cell's launch credit, from the sum of what it is owed. -/
theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem sum_bar (c : Fin 8) : ∑ d : Dev nD, O₀ d (barCell c) () = 7 := by
  have e (d : Dev nD) : O₀ d (barCell c) () = if c ≠ d then 1 else 0 :=
    (OB_bar d c 8 (le_refl _)).trans (if_congr (Iff.intro (fun h => h.1) fun h => ⟨h, Nat.le_add_left _ _⟩) rfl rfl)
  rw [Finset.sum_congr rfl fun d _ => e d]
  clear e
  revert c; decide
theorem sum_x (c s : Fin 8) (hs : s ≠ 0) : ∑ d : Dev nD, O₀ d (dCell c 1 s) () = NX := by
  have h0 : 8 ≤ s.val + 7 := by revert s; decide
  have e (d : Dev nD) : O₀ d (dCell c 1 s) () = if d = c + s then NX else 0 :=
    ((OB_dma d c 1 s 8).trans (OX_x d c s 7 (le_refl _))).trans
      (if_congr ⟨fun h => by have := h.1; revert this; clear h h0 hs; revert c s d; decide, fun h => ⟨by revert h; clear h0 hs; revert c s d; decide, h0⟩⟩ rfl rfl)
  rw [Finset.sum_congr rfl fun d _ => e d]
  exact (Finset.sum_ite_eq' Finset.univ (c + s) fun _ => NX).trans (if_pos (Finset.mem_univ _))
theorem sum_a (c k : Fin 8) (hk : k ≠ c) : ∑ d : Dev nD, O₀ d (dCell c 3 k) () = NA := by
  have e (d : Dev nD) : O₀ d (dCell c 3 k) () = if d = k then NA else 0 :=
    (((OB_dma d c 3 k 8).trans (OX_a d c k 7)).trans (OA_a d c k 8 (le_refl _))).trans
      (if_congr ⟨fun h => h.1.symm, fun h => ⟨h.symm, fun e => hk (h.symm.trans e.symm), Nat.le_add_left _ _⟩⟩ rfl rfl)
  rw [Finset.sum_congr rfl fun d _ => e d]
  exact (Finset.sum_ite_eq' Finset.univ k fun _ => NA).trans (if_pos (Finset.mem_univ _))

/-! ## Products over a device's cells -/

omit [FloatOps F] in
/-- A product over a device's cells: the barrier's, then the four arrays'. -/
theorem opt (R : Option (Fin 4 × Fin 8) → sProp 𝕄) :
    bigSep Finset.univ R = iprop(R none ∗ (bigSep Finset.univ fun i => R (some (0, i))) ∗ (bigSep Finset.univ fun i => R (some (1, i)))
      ∗ (bigSep Finset.univ fun i => R (some (2, i))) ∗ (bigSep Finset.univ fun i => R (some (3, i)))) := by
  have e : (Finset.univ : Finset (Option (Fin 4 × Fin 8))) = insert none (Finset.univ.map Function.Embedding.some) := by
    ext o; cases o <;> simp
  rw [e, bigSep_insert (by simp), bigSep_map, bigSep_univ_prod, four]
  rfl

theorem csem_injective : Function.Injective (csem : Option (Fin 4 × Fin 8) → SemLoc sig) := by
  rintro (_ | ⟨a, i⟩) (_ | ⟨a', i'⟩) h
  · rfl
  · exact absurd h (fun h => by cases h)
  · exact absurd h (fun h => by cases h)
  · have h2 : dsem a i = dsem a' i' := SemLoc.dma.inj h
    have ha : a = a' := by rw [← arrOf_dsem a i, h2, arrOf_dsem]
    have hi : i = i' := by rw [← idxOf_dsem a i, h2, idxOf_dsem]
    rw [ha, hi]
theorem kcell_injective : Function.Injective (kcell : Key → GSem nD τ sig) := by
  rintro ⟨c, o⟩ ⟨c', o'⟩ h
  have h1 : c = c' := congrArg (fun g : GSem nD τ sig => g.1.1) h
  have h2 : o = o' := csem_injective (congrArg Prod.snd h)
  rw [h1, h2]

omit [FloatOps F] in
/-- Something may be dropped. -/
theorem drop_if {p : Prop} [Decidable p] {A B : sProp 𝕄} (h : ¬ p → A ⊢ B) : A ⊢ if p then iprop(emp) else B := by
  by_cases hp : p
  · rw [if_pos hp]; iintro -; iempintro
  · rw [if_neg hp]; exact h hp

omit [FloatOps F] in
/-- Anything may be dropped. -/
theorem drop_all (A : sProp 𝕄) : A ⊢ iprop(emp) := by iintro -; iempintro

/-- The launch's credits of device `c`. -/
theorem creds (c : Dev nD) :
    (Pipeline.launchCred O₀ c : sProp 𝕄) ⊢ iprop(cred (tallyAt (barCell c) () 7) ∗ XCr (F := F) c ∗ ACr (F := F) c) := by
  unfold Pipeline.launchCred
  refine (bigSep_subset (Finset.subset_univ (Finset.univ.map ⟨csem, csem_injective⟩))).trans ?_
  rw [bigSep_map, opt]
  refine BIBase.Entails.trans (sep_mono (Entails.of_eq (congrArg cred (launch_cell (barCell c) 7 (sum_bar c)))) (sep_mono (drop_all _) (sep_mono
    ((bigSep_subset (Finset.erase_subset (0 : Fin 8) Finset.univ)).trans
      (bigSep_mono fun s hs => Entails.of_eq (congrArg cred (launch_cell (dCell c 1 s) NX (sum_x c s (Finset.ne_of_mem_erase hs))))))
    (sep_mono (drop_all _) (bigSep_mono fun k _ => drop_if fun hk => Entails.of_eq (congrArg cred (launch_cell (dCell c 3 k) NA (sum_a c k hk))))))))
    (?_ : iprop(cred (tallyAt (barCell c) () 7) ∗ emp ∗ (bigSep (Finset.univ.erase (0 : Fin 8)) fun s => cred (tallyAt (dCell c 1 s) () NX)) ∗ emp
      ∗ (bigSep Finset.univ fun k : Fin 8 => if k = c then iprop(emp) else cred (tallyAt (dCell c 3 k) () NA))) ⊢ _)
  unfold XCr ACr
  iintro ⟨HB, -, HX, -, HA⟩
  isplitl [HB]; · iexact HB
  isplitl [HX]; · iexact HX
  iexact HA

/-! ## The tokens -/

/-- The duties device `c` pays, as (kind, other device or offset): barrier signals, sends of `x`, their arrivals, sends of maxima, their arrivals. -/
abbrev tokOf (ck : Dev nD × (Fin 5 × Fin 8)) : GSem nD τ sig × ℕ × Fin 8 := match ck.2.1 with
  | 0 => (barCell ck.2.2, 0, ck.1) | 1 => (dCell ck.1 0 ck.2.2, 0, 0) | 2 => (dCell ((ck.1 : Fin 8) - ck.2.2) 1 ck.2.2, 0, 0)
  | 3 => (dCell ck.1 2 ck.2.2, 0, 0) | 4 => (dCell ck.2.2 3 ck.1, 0, 0)
/-- The payer and kind of a duty. -/
def payer (x : GSem nD τ sig × ℕ × Fin 8) : Dev nD × (Fin 5 × Fin 8) := match x.1.2 with
  | .reg _ => (x.2.2, 0, x.1.1.1)
  | .dma n => match arrOf n.val with
    | 0 => (x.1.1.1, 1, idxOf n.val)
    | 1 => ((x.1.1.1 : Fin 8) + idxOf n.val, 2, idxOf n.val)
    | 2 => (x.1.1.1, 3, idxOf n.val)
    | 3 => (idxOf n.val, 4, x.1.1.1)
theorem payer_tokOf (ck : Dev nD × (Fin 5 × Fin 8)) : payer (tokOf ck) = ck := by
  obtain ⟨c, k, j⟩ := ck
  fin_cases k
  · rfl
  · revert c j; decide
  · revert c j; decide
  · revert c j; decide
  · revert c j; decide
theorem tokOf_injective : Function.Injective tokOf := Function.LeftInverse.injective payer_tokOf

def allCells : Finset (GSem nD τ sig) := Finset.univ.map ⟨kcell, kcell_injective⟩
def allToks : Finset (GSem nD τ sig × ℕ × Fin 8) := Finset.univ.map ⟨tokOf, tokOf_injective⟩

/-- The tokens device `c` pays with. -/
def Toks (c : Dev nD) : sProp 𝕄 := iprop(BarT (F := F) c ∗ SendTs (F := F) c ∗ MaxT (F := F) c)

omit [FloatOps F] in
theorem five (R : Fin 5 → sProp 𝕄) : bigSep Finset.univ R = iprop(R 0 ∗ R 1 ∗ R 2 ∗ R 3 ∗ R 4) := by
  rw [bigSep_univ_eq_bigSepL [0, 1, 2, 3, 4] (by decide) (by decide)]
  simp only [bigSepL_cons_cons, bigSepL_singleton]
  rfl

theorem toks_intro (c : Dev nD) :
    (bigSep Finset.univ fun x : Fin 5 × Fin 8 => (dutyTok ER (tokOf (c, x)).1 (tokOf (c, x)).2.1 (tokOf (c, x)).2.2 : sProp 𝕄)) ⊢ Toks (F := F) c := by
  rw [bigSep_univ_prod, five]
  refine BIBase.Entails.trans (sep_mono (bigSep_mono fun j _ => drop_if (p := j = c) fun _ => Entails.refl _) (sep_mono
    (bigSep_subset (Finset.erase_subset (0 : Fin 8) Finset.univ)) (sep_mono (bigSep_subset (Finset.erase_subset (0 : Fin 8) Finset.univ))
      ((Entails.of_eq (bigSep_sep' Finset.univ _ _).symm).trans (bigSep_mono fun j _ => drop_if (p := j = c) fun _ => Entails.refl _)))))
    (?_ : iprop((bigSep Finset.univ fun j : Fin 8 => if j = c then iprop(emp) else dutyTok ER (barCell j) 0 c)
      ∗ (bigSep (Finset.univ.erase (0 : Fin 8)) fun s => dutyTok ER (dCell c 0 s) 0 0)
      ∗ (bigSep (Finset.univ.erase (0 : Fin 8)) fun s => dutyTok ER (dCell ((c : Fin 8) - s) 1 s) 0 0)
      ∗ (bigSep Finset.univ fun j : Fin 8 => if j = c then iprop(emp) else iprop(dutyTok ER (dCell c 2 j) 0 0 ∗ dutyTok ER (dCell j 3 c) 0 0))) ⊢ _)
  unfold Toks BarT SendTs MaxT SendT
  rw [bigSep_sep' (Finset.univ.erase (0 : Fin 8))]
  iintro ⟨HB, HS, HX, HM⟩
  isplitl [HB]; · iexact HB
  isplitl [HS HX]
  · isplitl [HS]; · iexact HS
    iexact HX
  · iexact HM

end Cert.Proof

end
-- ==== Proof.Launch.lean ====
/-
# The start of the run

The launch's ghost state becomes every device's positions, tokens and the shared record of the cells; from it and the device's buffers the body starts, and
what the body ends with is what the run hands back.
-/
module

public import proofs.«01_k».proof.Proof.Fund

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

abbrev OwnSem := (Fin 4 × Fin 8) ⊕ (Fin 3 ⊕ (Unit ⊕ Fin 4))
/-- The kernel's own semaphores: the four arrays of eight, the weight slots', the local copy's, the copies out's. -/
abbrev osem : OwnSem → SemLoc sig
  | .inl (a, i) => .dma (dsem a i)
  | .inr (.inl s) => .dma (wsem s)
  | .inr (.inr (.inl _)) => .dma lsem
  | .inr (.inr (.inr q)) => .dma (osm q)

theorem ownSemFacts : Pipeline.OwnSemFacts cfg0.spec osem := by decide

/-- The semaphores no other device signals. -/
def Local (c : Dev nD) : sProp 𝕄 :=
  iprop((semVal ((c : Thread nD τ), .dma (wsem 0)) 0 ∗ semVal ((c : Thread nD τ), .dma (wsem 1)) 0 ∗ semVal ((c : Thread nD τ), .dma (wsem 2)) 0)
    ∗ semVal ((c : Thread nD τ), .dma lsem) 0
    ∗ (semVal ((c : Thread nD τ), .dma (osm 0)) 0 ∗ semVal ((c : Thread nD τ), .dma (osm 1)) 0 ∗ semVal ((c : Thread nD τ), .dma (osm 2)) 0
      ∗ semVal ((c : Thread nD τ), .dma (osm 3)) 0))

omit [FloatOps F] in
theorem three (R : Fin 3 → sProp 𝕄) : bigSep Finset.univ R = iprop(R 0 ∗ R 1 ∗ R 2) := by
  rw [bigSep_univ_eq_bigSepL [0, 1, 2] (by decide) (by decide)]
  simp only [bigSepL_cons_cons, bigSepL_singleton]
  rfl
omit [FloatOps F] in
theorem one (R : Unit → sProp 𝕄) : bigSep Finset.univ R = R () := by
  rw [bigSep_univ_eq_bigSepL [()] (by decide) (by decide)]
  simp only [bigSepL_singleton]

theorem ownSems0_eq (c : Dev nD) : (Pipeline.ownSems0 (Ix := Unit) (Name := ℕ) (U := UU) (Lvl := ℕ) (Val := Elt F) (τ := τ) osem c : sProp 𝕄)
    = iprop((ZeroA (F := F) c 0 ∗ ZeroA (F := F) c 1 ∗ ZeroA (F := F) c 2 ∗ ZeroA (F := F) c 3) ∗ Local (F := F) c) := by
  unfold Pipeline.ownSems0
  rw [BI.bigSep_univ_sum, BI.bigSep_univ_sum, BI.bigSep_univ_sum, bigSep_univ_prod, four, four, three, one]
  rfl

omit [FloatOps F] in
theorem unscopedSems0_eq (c : Dev nD) : (unscopedSems0 c : sProp 𝕄) = semVal (barCell c) 0 := by
  unfold unscopedSems0
  rw [bigSep_eq_bigSepL_of_eq [SemLoc.reg barS] (by decide) (by decide)]
  rfl

/-! ## The ghost state of the launch -/

def u₀ : UU := (initOf (Pipeline.cells cfgs cellOf_inj) (Pipeline.launchToks cfgs cellOf_inj), (initOf allCells allToks, 1))

/-- What the launch deals device `c`: its cells' schedules at round 0, its positions and the marks of them, its tokens. -/
def G (c : Dev nD) : sProp 𝕄 :=
  iprop((bigSep Finset.univ fun o => roundState ER (Rd m ρ) (kcell (c, o)) 0)
    ∗ (bigSep Finset.univ fun o => iprop(atPos ER (kcell (c, o)) 0 ∅ 0)) ∗ (bigSep Finset.univ fun o => iprop(reached ER (kcell (c, o)) 0)) ∗ Toks (F := F) c)

/-- What device `c` has for itself once the cells are set up. -/
def Mine (c : Dev nD) : sProp 𝕄 := iprop((bigSep Finset.univ fun o => atPos ER (kcell (c, o)) 0 ∅ 0) ∗ Toks (F := F) c ∗ Local (F := F) c)

/-- What the devices share, and what device `c` has for itself. -/
def G' (c : Dev nD) : sProp 𝕄 := iprop(∃ K, Recs m ρ K ∗ Mine (F := F) c)

omit [FloatOps F] in
/-- The launch element splits into the staging pipeline's and the cells'. -/
theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem fund_cells : BI.own (ER (initOf allCells allToks)) ⊢ (|==> bigSep Finset.univ (G m ρ) : sProp 𝕄) := by
  have hX (R : GSem nD τ sig → sProp 𝕄) : bigSep allCells R = bigSep Finset.univ fun c : Dev nD => bigSep Finset.univ fun o => R (kcell (c, o)) := by
    unfold allCells; rw [bigSep_map, bigSep_univ_prod]; rfl
  have hT : bigSep allToks (fun x => (dutyTok ER x.1 x.2.1 x.2.2 : sProp 𝕄)) ⊢ bigSep Finset.univ fun c : Dev nD => Toks (F := F) c := by
    unfold allToks; rw [bigSep_map, bigSep_univ_prod]
    exact bigSep_mono fun c _ => toks_intro c
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat]; · iexact Hat
  isplitl [Hr]; · iexact Hr
  iexact Htok

/-- Device `c`'s cells are opened for all the devices. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o => iprop(∃ κ : ℕ, cellInv ER (Rd m ρ) κ (kcell (c, o))))
          ∗ (bigSep Finset.univ fun o => iprop(reached ER (kcell (c, o)) 0)) ∗ Mine (F := F) c) := by
  have hv : iprop((ZeroA (F := F) c 0 ∗ ZeroA (F := F) c 1 ∗ ZeroA (F := F) c 2 ∗ ZeroA (F := F) c 3) ∗ semVal (barCell c) 0)
      ⊢ (bigSep Finset.univ fun o => semVal (kcell (c, o)) 0 : sProp 𝕄) := by
    rw [opt]
    unfold ZeroA
    iintro ⟨⟨H0, H1, H2, H3⟩, HB⟩
    isplitl [HB]; · iexact HB
    isplitl [H0]; · iexact H0
    isplitl [H1]; · iexact H1
    isplitl [H2]; · iexact H2
    iexact H3
  rw [ownSems0_eq, unscopedSems0_eq]
  unfold G Mine
  iintro ⟨⟨HZ, HL⟩, HB, Hst, Hat, Hr, Htok⟩
  ihave Hv := hv $$ [HZ HB]
  · isplitl [HZ]; · iexact HZ
    iexact HB
  imod (show iprop((bigSep Finset.univ fun o => semVal (kcell (c, o)) 0) ∗ bigSep Finset.univ fun o => roundState ER (Rd m ρ) (kcell (c, o)) 0)
      ⊢ (|={Set.univ}=> bigSep Finset.univ fun o => iprop(∃ κ : ℕ, cellInv ER (Rd m ρ) κ (kcell (c, o))) : sProp 𝕄) from by
        rw [← bigSep_sep']
        exact (bigSep_mono fun o _ => (Rounds.body_intro ER (Rd m ρ) (kcell (c, o))).trans inv_alloc).trans (bigSep_fupd _ _)) $$ [Hv Hst] with HI
  · isplitl [Hv]; · iexact Hv
    iexact Hst
  imodintro
  isplitl [HI]; · iexact HI
  isplitl [Hr]; · iexact Hr
  isplitl [Hat]; · iexact Hat
  isplitl [Htok]; · iexact Htok
  iexact HL

theorem one_G (K : Key → ℕ) (c : Dev nD) : iprop(Recs m ρ K ∗ Mine (F := F) c) ⊢ G' m ρ c := by
  unfold G'
  iintro H
  iexists K
  iexact H

/-- The records of all the devices' cells are every device's. -/
theorem share_cells :
    (bigSep Finset.univ fun c : Dev nD => iprop((bigSep Finset.univ fun o => iprop(∃ κ : ℕ, cellInv ER (Rd m ρ) κ (kcell (c, o))))
          ∗ (bigSep Finset.univ fun o => iprop(reached ER (kcell (c, o)) 0)) ∗ Mine (F := F) c) : sProp 𝕄)
      ⊢ bigSep Finset.univ (G' m ρ) := by
  rw [bigSep_sep', bigSep_sep', ← bigSep_univ_prod (fun ck : Key => iprop(∃ κ : ℕ, cellInv ER (Rd m ρ) κ (kcell ck))),
    ← bigSep_univ_prod (fun ck : Key => (reached ER (kcell ck) 0 : sProp 𝕄))]
  iintro ⟨HI, HR, HM⟩
  ihave HK := (BI.bigSep_exists_pi Finset.univ (fun (ck : Key) (κ : ℕ) => (cellInv ER (Rd m ρ) κ (kcell ck) : sProp 𝕄))) $$ HI
  icases HK with ⟨%K, HI⟩
  ihave HRec := (show iprop((bigSep Finset.univ fun ck : Key => cellInv ER (Rd m ρ) (K ck) (kcell ck)) ∗ bigSep Finset.univ fun ck : Key => reached ER (kcell ck) 0)
    ⊢ Recs (F := F) m ρ K from Entails.of_eq rfl) $$ [HI HR]
  · isplitl [HI]; · iexact HI
    iexact HR
  iapply (show iprop(Recs m ρ K ∗ bigSep Finset.univ fun c : Dev nD => Mine (F := F) c) ⊢ bigSep Finset.univ (G' m ρ) from
    (sep_mono_left (BI.bigSep_of_persistent Finset.univ (Recs m ρ K))).trans (by
      rw [← bigSep_sep']
      exact bigSep_mono fun c _ => one_G m ρ K c))
  isplitl [HRec]; · iexact HRec
  iexact HM

/-- Every device's semaphores and ghost state, together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (share_cells m ρ))

/-! ## From the launch to the body, and back -/

/-- The buffers no window stages, at the start. -/
def Rest (c : Dev nD) : sProp 𝕄 :=
  iprop(some_ (F := F) c cc0_scratch0 ∗ some_ (F := F) c cc0_scratch1 ∗ some_ (F := F) c cc0_scratch2 ∗ some_ (F := F) c cc0_scratch3 ∗ some_ (F := F) c cc0_scratch4
    ∗ some_ (F := F) c cc0_scratch5)

/-- What device `c` starts with, besides its scratch buffers. -/
def start (c : Dev nD) : sProp 𝕄 :=
  iprop((∃ K, Ctx m ρ K ∗ Mine (F := F) c) ∗ (cred (tallyAt (barCell c) () 7) ∗ XCr (F := F) c ∗ ACr (F := F) c)
    ∗ pts c main_arg1 Finset.univ fullShare (Wt m c) ∗ some_ (F := F) c main_v1)

omit [FloatOps F] in
theorem out_cut (c : Dev nD) : some_ (F := F) c main_v1
    ⊢ iprop((∃ f, pts (F := F) c main_v1 (rA 0).set fullShare f) ∗ (∃ f, pts (F := F) c main_v1 (rA 1).set fullShare f)
      ∗ (∃ f, pts (F := F) c main_v1 (rA 2).set fullShare f) ∗ ∃ f, pts (F := F) c main_v1 (rA 3).set fullShare f) := by
  unfold some_
  iintro ⟨%f, H⟩
  ihave H := (Entails.of_eq ((cutO c fullShare f).trans (four _))) $$ H
  icases H with ⟨H0, H1, H2, H3⟩
  isplitl [H0]; · iexists f; iexact H0
  isplitl [H1]; · iexists f; iexact H1
  isplitl [H2]; · iexists f; iexact H2
  iexists f; iexact H3
theorem acc_cut (c : Dev nD) : some_ (F := F) c cc0_scratch3 ⊢ iprop(AccAny (F := F) c 0 ∗ AccAny (F := F) c 1 ∗ AccAny (F := F) c 2 ∗ AccAny (F := F) c 3) := by
  unfold some_ AccAny
  iintro ⟨%f, H⟩
  ihave H := (Entails.of_eq ((cutA c fullShare f).trans (four _))) $$ H
  icases H with ⟨H0, H1, H2, H3⟩
  isplitl [H0]; · iexists f; iexact H0
  isplitl [H1]; · iexists f; iexact H1
  isplitl [H2]; · iexists f; iexact H2
  iexists f; iexact H3

/-- The weight slots, ready, with the rest of the weights kept. -/
theorem slots_intro (c : Dev nD) :
    iprop(some_ (F := F) c cc0_scratch2 ∗ pts c main_arg1 Finset.univ fullShare (Wt m c)
        ∗ (semVal ((c : Thread nD τ), .dma (wsem 0)) 0 ∗ semVal ((c : Thread nD τ), .dma (wsem 1)) 0 ∗ semVal ((c : Thread nD τ), .dma (wsem 2)) 0))
      ⊢ iprop((Slot m c 0 ∗ Slot m c 1 ∗ Slot m c 2) ∗ wLeft m c) := by
  unfold some_ Slot
  iintro ⟨⟨%f, HS⟩, HW, H0, H1, H2⟩
  ihave HS := (halves_intro c f) $$ HS
  icases HS with ⟨⟨A0, B0⟩, ⟨A1, B1⟩, A2, B2⟩
  ihave HW := (weights_cut m c).1 $$ HW
  icases HW with ⟨HW, ⟨C0, D0⟩, ⟨C1, D1⟩, C2, D2⟩
  isplitr [HW]
  · isplitl [H0 A0 B0 C0 D0]
    · isplitl [H0]; · iexact H0
      isplitl [A0]; · iexact A0
      isplitl [B0]; · iexact B0
      isplitl [C0]; · iexact C0
      iexact D0
    isplitl [H1 A1 B1 C1 D1]
    · isplitl [H1]; · iexact H1
      isplitl [A1]; · iexact A1
      isplitl [B1]; · iexact B1
      isplitl [C1]; · iexact C1
      iexact D1
    · isplitl [H2]; · iexact H2
      isplitl [A2]; · iexact A2
      isplitl [B2]; · iexact B2
      isplitl [C2]; · iexact C2
      iexact D2
  · iexact HW
/-- The weight slots, given back. -/
theorem slots_elim (c : Dev nD) (f₀ : (cc0_scratch2 : Ref sig .tc).ty.Contents (Elt F)) :
    iprop((Slot m c 0 ∗ Slot m c 1 ∗ Slot m c 2) ∗ wLeft m c)
      ⊢ iprop(some_ (F := F) c cc0_scratch2 ∗ pts c main_arg1 Finset.univ fullShare (Wt m c)
        ∗ (semVal ((c : Thread nD τ), .dma (wsem 0)) 0 ∗ semVal ((c : Thread nD τ), .dma (wsem 1)) 0 ∗ semVal ((c : Thread nD τ), .dma (wsem 2)) 0)) := by
  unfold some_ Slot
  iintro ⟨⟨⟨H0, A0, B0, C0, D0⟩, ⟨H1, A1, B1, C1, D1⟩, H2, A2, B2, C2, D2⟩, HW⟩
  isplitl [A0 B0 A1 B1 A2 B2]
  · iapply (halves_elim c f₀)
    isplitl [A0 B0]
    · isplitl [A0]; · iexact A0
      iexact B0
    isplitl [A1 B1]
    · isplitl [A1]; · iexact A1
      iexact B1
    · isplitl [A2]; · iexact A2
      iexact B2
  isplitl [HW C0 D0 C1 D1 C2 D2]
  · iapply (weights_cut m c).2
    isplitl [HW]; · iexact HW
    isplitl [C0 D0]
    · isplitl [C0]; · iexact C0
      iexact D0
    isplitl [C1 D1]
    · isplitl [C1]; · iexact C1
      iexact D1
    · isplitl [C2]; · iexact C2
      iexact D2
  isplitl [H0]; · iexact H0
  isplitl [H1]; · iexact H1
  iexact H2

/-- What the body starts with, and the rest of the weights. -/
theorem begin_intro (c : Dev nD) :
    iprop(Mine (F := F) c ∗ (cred (tallyAt (barCell c) () 7) ∗ XCr (F := F) c ∗ ACr (F := F) c)
        ∗ pts c main_arg1 Finset.univ fullShare (Wt m c) ∗ some_ (F := F) c main_v1 ∗ Rest (F := F) c
        ∗ Ow c (OB c 8) ∗ pts c cc0_stg0_0 Finset.univ fullShare (Xt m ρ c))
      ⊢ iprop(Begin m ρ c ∗ wLeft m c) := by
  unfold Mine Rest Begin Toks Local
  rw [opt fun o => (atPos ER (kcell (c, o)) 0 ∅ 0 : sProp 𝕄)]
  iintro ⟨⟨⟨PB, P0, P1, P2, P3⟩, ⟨TB, TS, TM⟩, HWs, HL, O0, O1, O2, O3⟩, ⟨CB, CX, CA⟩, HW, HV, ⟨S0, S1, S2, S3, S4, S5⟩, HO, HX⟩
  ihave HV := (out_cut c) $$ HV
  icases HV with ⟨V0, V1, V2, V3⟩
  ihave S3 := (acc_cut c) $$ S3
  ihave HS := (slots_intro m c) $$ [S2 HW HWs]
  · isplitl [S2]; · iexact S2
    isplitl [HW]; · iexact HW
    iexact HWs
  icases HS with ⟨HS, HW⟩
  isplitr [HW]
  · isplitl [HO]; · iexact HO
    isplitl [HX]; · iexact HX
    isplitl [S0]; · iexact S0
    isplitl [S1]; · iexact S1
    isplitl [S5]; · iexact S5
    isplitl [S4]; · iexact S4
    isplitl [TB]; · iexact TB
    isplitl [TS]; · iexact TS
    isplitl [TM]; · iexact TM
    isplitl [CB]; · iexact CB
    isplitl [PB]; · iexact PB
    isplitl [P0]; · unfold AtA; iexact P0
    isplitl [P1]; · unfold AtA; iexact P1
    isplitl [P2]; · unfold AtA; iexact P2
    isplitl [P3]; · unfold AtA; iexact P3
    isplitl [CX]; · iexact CX
    isplitl [CA]; · iexact CA
    isplitl [HL]; · iexact HL
    isplitl [HS]; · iexact HS
    isplitl [S3]; · iexact S3
    unfold OutR
    isplitl [V0 O0]
    · isplitl [V0]; · iexact V0
      iexact O0
    isplitl [V1 O1]
    · isplitl [V1]; · iexact V1
      iexact O1
    isplitl [V2 O2]
    · isplitl [V2]; · iexact V2
      iexact O2
    · isplitl [V3]; · iexact V3
      iexact O3
  · iexact HW

/-- What device `c` ends with. -/
def stop (c : Dev nD) : sProp 𝕄 :=
  iprop((semVal (barCell c) 0 ∗ pts c main_arg1 Finset.univ fullShare (Wt m c) ∗ pts c main_v1 Finset.univ fullShare (Ov m ρ c))
    ∗ ((ZeroA (F := F) c 0 ∗ ZeroA (F := F) c 1 ∗ ZeroA (F := F) c 2 ∗ ZeroA (F := F) c 3) ∗ Local (F := F) c) ∗ Rest (F := F) c)

theorem end_elim (c : Dev nD) :
    iprop(End m ρ c ∗ wLeft m c) ⊢ iprop(Ow c 0 ∗ pts c cc0_stg0_0 Finset.univ fullShare (Xt m ρ c) ∗ stop m ρ c) := by
  unfold End stop Local Rest Gath
  iintro ⟨⟨HO, HX, HB, Z0, Z1, Z2, Z3, HL, HS, HQ, S0, S1, S3, S4, S5, HV⟩, HW⟩
  ihave HS := (slots_elim m c (fun _ => Wt m c ((fun a => ⟨0, by fin_cases a <;> decide⟩ : S4096x8192.Idx)))) $$ [HS HW]
  · isplitl [HS]; · iexact HS
    iexact HW
  icases HS with ⟨S2, HW, HWs⟩
  isplitl [HO]; · iexact HO
  isplitl [HX]; · iexact HX
  isplitl [HB HW HV]
  · isplitl [HB]; · iexact HB
    isplitl [HW]; · iexact HW
    iexact HV
  isplitl [Z0 Z1 Z2 Z3 HL HQ HWs]
  · isplitl [Z0 Z1 Z2 Z3]
    · isplitl [Z0]; · iexact Z0
      isplitl [Z1]; · iexact Z1
      isplitl [Z2]; · iexact Z2
      iexact Z3
    isplitl [HWs]; · iexact HWs
    isplitl [HL]; · iexact HL
    iexact HQ
  unfold some_
  isplitl [S0]; · iexists _; iexact S0
  isplitl [S1]; · iexists _; rw [Sg_univ]; iexact S1
  isplitl [S2]; · iexact S2
  isplitl [S3]; · iexists _; iexact S3
  isplitl [S4]; · iexists _; iexact S4
  iexists _; iexact S5

end Cert.Proof

end
-- ==== Proof.Run.lean ====
/-
# The run

Every device's body put together: the whole program ends, with what each device's result array holds.
-/
module

public import proofs.«01_k».proof.Proof.Launch
public import Idealize.ShloMosaic.Lib.Pipeline.CollectiveSegs

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The staging pipeline's data -/

/-- Before and after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xt m ρ c
  Φ t := match t with
    | ⟨0, _⟩ => iprop(start m ρ c ∗ Rest (F := F) c)
    | ⟨_ + 1, _⟩ => stop m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem fetch_0 (t : Fin cfg0.N) : (cfg0.win 0).fetch t = true := by rw [fin_N0 t]; rfl

/-- The body's contents of a staging buffer. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

theorem body_whole (c : Dev nD) :
    iprop((start m ρ c ∗ Rest (F := F) c) ∗ (dats m ρ 0 c).owesAt () (t0_0 : Fin cfg0.N).castSucc ∗ (∃ d, stg c ((dats m ρ 0 c).before 0 t0_0 d)))
      ⊢ WP c (on (cc0_body (F := F))) fun _ => iprop(stop m ρ c ∗ (dats m ρ 0 c).owesAt () (t0_0 : Fin cfg0.N).succ ∗ stg c (Xt m ρ c)) := by
  unfold start
  iintro ⟨⟨⟨⟨%K, #HC, HM⟩, Hcr, HW, HV⟩, HR⟩, Ho, ⟨%d, %g, %hg, HX⟩⟩
  have hx : g = Xt m ρ c := by rw [hg]; unfold Dat.before; rw [if_pos (fetch_0 t0_0)]; rfl
  subst hx
  unfold Dat.owesAt Pipeline.owesWithin
  icases Ho with ⟨%W, %hW, HO⟩
  rw [show (dats m ρ 0 c).owed (t0_0 : Fin cfg0.N).castSucc = OB c 8 from rfl, show (dats m ρ 0 c).owed (t0_0 : Fin cfg0.N).succ = 0 from rfl]
  ihave HB := (begin_intro m ρ c) $$ [HM Hcr HW HV HR HO HX]
  · isplitl [HM]; · iexact HM
    isplitl [Hcr]; · iexact Hcr
    isplitl [HW]; · iexact HW
    isplitl [HV]; · iexact HV
    isplitl [HR]; · iexact HR
    isplitl [HO]
    · unfold Ow; iexists W; iexact HO
    iexact HX
  icases HB with ⟨HB, HL⟩
  iapply (body_run m ρ K c) $$ HC HB
  iintro HE
  ihave HE := (end_elim m ρ c) $$ [HE HL]
  · isplitl [HE]; · iexact HE
    iexact HL
  unfold Ow
  icases HE with ⟨⟨%W', HO⟩, HX, HS⟩
  isplitl [HS]; · iexact HS
  isplitl [HO]
  · iexists W'
    isplitr; · ipureintro; exact fun _ _ => Or.inl trivial
    iexact HO
  iexists _; isplitr; · (ipureintro; rfl)
  iexact HX

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_whole m ρ c

/-! ## The launch's side conditions -/

theorem share_eq (c : Dev nD) (w : Fin cfg0.W) : (dats m ρ 0 c).share w = fullShare := by unfold Dat.share; split <;> rfl

omit [FloatOps F] in
theorem rest_eq (c : Dev nD) :
    (Pipeline.unscopedRestP Pipeline.Prefetch.none cfg0.spec c (fun b => m ((c : Thread nD τ).loc b)) : sProp 𝕄)
      = iprop(pts c main_arg1 Finset.univ fullShare (Wt m c) ∗ pts c main_v1 Finset.univ fullShare (m ((c : Thread nD τ).loc main_v1))) :=
  (Pipeline.unscopedRestP_eq_of_list cfg0.spec c Pipeline.Prefetch.none (fun b => m ((c : Thread nD τ).loc b)) [main_arg1, main_v1] (by decide) (by decide)).trans
    (by rw [bigSepL_cons_cons, bigSepL_singleton]; rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [rest_eq]
  unfold G' start Ctx
  iintro ⟨⟨HW, HV⟩, #HL, Hcr, -, ⟨%K, #HR, HM⟩⟩
  ihave Hcr := (creds (F := F) c) $$ Hcr
  imodintro
  isplitl
  · isplitl [HM]
    · iexists K
      isplitr
      · isplitr; · iexact HR
        iexact HL
      iexact HM
    isplitl [Hcr]; · iexact Hcr
    isplitl [HW]; · iexact HW
    iexists _; iexact HV
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ Rest (F := F) c) from rfl, scopedRest0_eq]
  unfold Rest
  iintro ⟨Hs, -, HR⟩
  isplitl [Hs]; · iexact Hs
  iexact HR

/-- What device `c` keeps past the body. -/
def Kept (c : Dev nD) : sProp 𝕄 :=
  iprop(unscopedSems0 c ∗ pts c main_arg1 Finset.univ fullShare (Wt m c) ∗ pts c main_v1 Finset.univ fullShare (Ov m ρ c))

theorem leave (c : Dev nD) :
    (dats m ρ 0 c).Φ (Fin.last cfg0.N) ⊢ iprop(Kept m ρ c ∗ Pipeline.ownSems0 osem c ∗ Pipeline.scopedRest cfg0.spec c) := by
  rw [show (dats m ρ 0 c).Φ (Fin.last cfg0.N) = stop m ρ c from rfl, scopedRest0_eq, ownSems0_eq]
  unfold Kept stop Rest
  rw [unscopedSems0_eq]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_above c _ (n := 0) (by fin_cases w <;> fin_cases s <;> exact Nat.le_of_eq rfl) (OB_above c 8)
    · exact mayWait_above c _ (n := 0) (by fin_cases w <;> fin_cases s <;> exact Nat.le_of_eq rfl) (Above.zero 0)

omit [FloatOps F] in
/-- What a buffer held whole holds. -/
theorem pointsTo_read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  refine h.trans ?_
  iintro ⟨%e, H⟩
  isplitr; · ipureintro; exact e () (Finset.mem_singleton_self _)
  iexact H

/-- What is read off a device at the end. -/
theorem kept_read (c : Dev nD) (s' : Phys nD τ sig (Elt F)) :
    iprop(Kept m ρ c ∗ emp ∗ SI s')
      ⊢ |={Set.univ}=> iprop(⌜(∀ sm : SemLoc sig, sm.isScoped .tc = false → s'.mem.sem ((c : Thread nD τ), sm) = 0)
          ∧ s'.mem.mem ((c : Thread nD τ).loc main_arg1) = Wt m c ∧ s'.mem.mem ((c : Thread nD τ).loc main_v1) = Ov m ρ c⌝ ∗ SI s') := by
  unfold Kept
  iintro ⟨⟨HU, HW, HV⟩, -, HS⟩
  ihave H := (pointsTo_read_one ((c : Thread nD τ).loc main_arg1) (Wt m c) s') $$ [HW HS]
  · isplitl [HW]; · iexact HW
    iexact HS
  icases H with ⟨%hW, HS⟩
  ihave H := (pointsTo_read_one ((c : Thread nD τ).loc main_v1) (Ov m ρ c) s') $$ [HV HS]
  · isplitl [HV]; · iexact HV
    iexact HS
  icases H with ⟨%hV, HS⟩
  imod (Pipeline.unscopedSems0_read (X := unscopedSems0 c) (c := c) fupd_intro s') $$ [HU HS] with H
  · isplitl [HU]; · iexact HU
    iexact HS
  icases H with ⟨%hU, HS⟩
  imodintro
  isplitr; · ipureintro; exact ⟨hU, hW, hV⟩
  iexact HS

/-! ## The run -/

/-- What every device's memory holds at the end: the arguments as they were, the result `Ov`. -/
def Done (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1) ∧ s.mem ((c : Thread nD τ).loc main_v1) = Ov m ρ c

set_option maxRecDepth 8000 in
/-- From any memory with zero counters every execution ends, every counter again zero and every device's memory as `Done` says. -/
theorem run_main : θ_run defs (onTc (τ := τ) (main (F := F))) (s₀ m ρ) (fun r => Done m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (launch_split _ _) $$ Hu
      icases H with ⟨HP, HX⟩
      imod (fund_cells m ρ) $$ HX with HG
      imodintro
      isplitl [HP]; · iexact HP
      iexact HG)
    (hglob := glob m ρ)
    (hA := fun _ _ => rfl) (hpf := fun _ k => k.elim0)
    (X := start m ρ) (Y := Kept m ρ) (Z := fun _ => iprop(emp))
    (hX := start_intro m ρ) (hin := enter m ρ) (hout := leave m ρ)
    (QY := fun c s => (∀ sm : SemLoc sig, sm.isScoped .tc = false → s.sem ((c : Thread nD τ), sm) = 0)
      ∧ s.mem ((c : Thread nD τ).loc main_arg1) = Wt m c ∧ s.mem ((c : Thread nD τ).loc main_v1) = Ov m ρ c)
    (hY := kept_read m ρ)
    (hQ := fun s h hs => ⟨fun c => ⟨((h c).1 0).trans ((dats (F := F) m ρ 0 c).arrAt_in 0 rfl _), (h c).2.2.2.1, (h c).2.2.2.2⟩, sem_eq_zero hs fun c => (h c).2.2.1⟩)

end Cert.Proof

end
-- ==== Proof.Printed.lean ====
/-
# The run of the printed kernel

The kernel as printed and its reading over the extended reals are one program, since no operation is rewritten. Their body tables are
equal, so the run of Proof/Run.lean is also the printed kernel's.
-/
module

public import proofs.«01_k».proof.Defs
public import proofs.«01_k».proof.Proof.Gen.Kernel
public import proofs.«01_k».proof.Proof.Run

@[expose] public section

set_option maxRecDepth 16384

noncomputable section

namespace Cert.Proof

open Idealize.ShloMosaic Idealize.SL.Sem

/-- The two programs' kernel bodies are one term. -/
theorem body_printed : @Cert.Kernel.cc0_body Bits _ Cert.Kernel.Gen.facts = @Cert.KernelIdeal.cc0_body Bits _ Cert.KernelIdeal.Gen.facts := rfl

/-- So their kernels' body tables are equal, -/
theorem defs₀_printed : @Cert.Kernel.defs₀ Bits _ Cert.Kernel.Gen.facts = @Cert.KernelIdeal.defs₀ Bits _ Cert.KernelIdeal.Gen.facts := by
  refine congrArg Defs.onTc (funext fun l => ?_)
  match l with
  | ⟨0, _⟩ => rfl

/-- and the tables with the pipeline's labels. -/
theorem defs_printed : @Cert.Kernel.defs Bits _ Cert.Kernel.Gen.facts = @Cert.KernelIdeal.defs Bits _ Cert.KernelIdeal.Gen.facts :=
  congrArg (Pipeline.defs (Cert.KernelIdeal.pcfgs (F := Bits))) defs₀_printed

/-- The run of the printed kernel: every device's arguments and result are as `Done` says, every counter at zero. -/
theorem run_printed (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      (fun r => Done (F := Bits) m ρ r.2 ∧ r.2.sem = fun _ => 0) := by
  rw [defs_printed]
  exact run_main (F := Bits) m ρ

end Cert.Proof

end
-- ==== Proof.ValueMath.lean ====
/-
# The arithmetic of the value claim

Facts about the extended reals, with nothing of the program in them: the two quantisers agree, a sum over 4096 places may start anywhere,
the five groups of the products make one sum, and a largest value is below a bound when every value is.
-/
module

public import Idealize.ShloMosaic.Lib.Pointwise

@[expose] public section

noncomputable section

namespace Cert.Proof

open Idealize.ShloMosaic

/-- The bit pattern `0x42FE0000` denotes 127. -/
theorem ofBits_127 : Ideal.ofBits .f32 0x42FE0000#32 = ((127 : ℝ) : EReal) := by
  have h : BitVec.extractLsb' 31 1 1123942400#32 = 0#1 := by decide
  norm_num [Ideal.ofBits, Ideal.ieee, h, Nat.shiftRight_eq_div_pow]

/-- Multiplying by `127 / g` is dividing by `g / 127`, for a real `g` above zero. -/
theorem mul_div_127 (y : EReal) {r : ℝ} (hr : 0 < r) :
    y * Ideal.div ((127 : ℝ) : EReal) (r : EReal) = Ideal.div y (Ideal.div (r : EReal) ((127 : ℝ) : EReal)) := by
  have h1 : (r : EReal) ≠ 0 := by exact_mod_cast hr.ne'
  have h2 : ((127 : ℝ) : EReal) ≠ 0 := by norm_cast
  have h3 : ((r : EReal) * ((127 : ℝ) : EReal)⁻¹) = ((r * 127⁻¹ : ℝ) : EReal) := by
    rw [← EReal.coe_inv, ← EReal.coe_mul]
  have h4 : ((r * 127⁻¹ : ℝ) : EReal) ≠ 0 := by
    have : r * 127⁻¹ ≠ 0 := by positivity
    exact_mod_cast this
  unfold Ideal.div
  rw [if_neg h1, if_neg h2, h3, if_neg h4, ← EReal.coe_inv, ← EReal.coe_inv, ← EReal.coe_mul, mul_inv, inv_inv, mul_comm (127 : ℝ)]

/-- The quantiser that multiplies by `127 / g` and the one that divides by `g / 127` agree, whatever the lower bound `lo` and the
    quantised `y`, for any `g` not below zero: at `g = 0` both results are multiplied by zero, at `g = ⊤` both round zero. -/
theorem quantised (lo y g : EReal) (hg : 0 ≤ g) :
    min (Ideal.ofBits .f32 0x42FE0000#32) (max lo (Ideal.liftRound Ideal.roundHalfEven (y * Ideal.div (Ideal.ofBits .f32 0x42FE0000#32) g)))
        * Ideal.div g (Ideal.ofBits .f32 0x42FE0000#32)
      = min (Ideal.ofBits .f32 0x42FE0000#32)
          (max lo (Ideal.liftRound Ideal.roundHalfEven (Ideal.div y (Ideal.div g (Ideal.ofBits .f32 0x42FE0000#32)))))
        * Ideal.div g (Ideal.ofBits .f32 0x42FE0000#32) := by
  rw [ofBits_127]
  have h2 : ((127 : ℝ) : EReal) ≠ 0 := by norm_cast
  induction g using EReal.rec with
  | bot => exact absurd hg (by simp)
  | top =>
    have e : Ideal.div (⊤ : EReal) ((127 : ℝ) : EReal) = ⊤ := by
      unfold Ideal.div
      rw [if_neg h2, ← EReal.coe_inv]
      exact EReal.top_mul_coe_of_pos (by norm_num)
    have e' : ∀ z : EReal, Ideal.div z ⊤ = 0 := fun z => by
      unfold Ideal.div
      rw [if_neg (by simp), EReal.inv_top, mul_zero]
    rw [e, e', e', mul_zero]
  | coe r =>
    rcases (EReal.coe_nonneg.1 hg).eq_or_lt with h | h
    · subst h
      have e : Ideal.div ((0 : ℝ) : EReal) ((127 : ℝ) : EReal) = 0 := by
        unfold Ideal.div
        rw [if_neg h2, EReal.coe_zero, zero_mul]
      rw [e, mul_zero, mul_zero]
    · rw [mul_div_127 y h]

/-- A sum over 4096 places, started `a` places further on, is the sum. -/
theorem sum_rotated (a : ℕ) (f : Fin 4096 → EReal) :
    ∑ n : Fin 4096, f ⟨(a + n.val) % 4096, Nat.mod_lt _ (by decide)⟩ = ∑ k : Fin 4096, f k := by
  rw [← Equiv.sum_comp (Equiv.addLeft (Fin.ofNat 4096 a)) f]
  refine Finset.sum_congr rfl fun n _ => congrArg f (Fin.ext ?_)
  simp [Fin.val_add]

/-- Three groups of 1024 terms and two of 512, added in turn, are one sum. -/
theorem sum_groups (T : ℕ → EReal) :
    ((((∑ l : Fin 1024, T (1024 * 0 + l.val)) + ∑ l : Fin 1024, T (1024 * 1 + l.val)) + ∑ l : Fin 1024, T (1024 * 2 + l.val))
        + ∑ l : Fin 512, T (512 * 6 + l.val)) + ∑ l : Fin 512, T (512 * 7 + l.val)
      = ∑ n : Fin 4096, T n.val := by
  rw [Finset.sum_range T |>.symm, Finset.sum_range (fun l => T (1024 * 0 + l)) |>.symm, Finset.sum_range (fun l => T (1024 * 1 + l)) |>.symm,
    Finset.sum_range (fun l => T (1024 * 2 + l)) |>.symm, Finset.sum_range (fun l => T (512 * 6 + l)) |>.symm,
    Finset.sum_range (fun l => T (512 * 7 + l)) |>.symm]
  rw [show (4096 : ℕ) = 1024 + 1024 + 1024 + 512 + 512 from rfl, Finset.sum_range_add, Finset.sum_range_add, Finset.sum_range_add,
    Finset.sum_range_add]
  simp only [Nat.mul_zero, Nat.zero_add, Nat.mul_one, Nat.reduceMul, Nat.reduceAdd]

/-- The largest of a family's values is at most `z` exactly when each is. -/
theorem fold_max_le_iff {ι : Type*} [Fintype ι] (f : ι → EReal) (z : EReal) :
    (Finset.univ : Finset ι).fold max ⊥ f ≤ z ↔ ∀ i, f i ≤ z :=
  (Finset.fold_max_le z).trans ⟨fun H i => H.2 i (Finset.mem_univ i), fun H => ⟨bot_le, fun i _ => H i⟩⟩

/-- An absolute value is not below zero. -/
theorem abs_nonneg_ereal (a : EReal) : 0 ≤ max a (-a) := by
  rcases le_total 0 a with h | h
  · exact le_max_of_le_left h
  · exact le_max_of_le_right (by simpa using EReal.neg_le_neg_iff.2 h)

end Cert.Proof

end
-- ==== Proof.Payloads.lean ====
/-
# The kernel's stored values, element by element

Over the extended reals: a product of two row blocks of weights, of one, the running maximum, the maximum of all devices, and the
quantised block, each read at an index.
-/
module

public import proofs.«01_k».proof.Proof.ValueMath
public import proofs.«01_k».proof.Proof.Proto
public import Idealize.ShloMosaic.Lib.Pointwise

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The rounding of `x` to bf16 changes nothing. -/
theorem pay2_eq (x : Vec Ideal S4096x512 .f32) (r : Fin 4096) (l : Fin 512) : k0_pay2 x (ix2 r l) = x (ix2 r l) := by
  pointwise [k0_pay2]

/-- A product over two row blocks. -/
theorem pay3_eq (g : Vec Ideal S512x1024 .bf16) (w : Vec Ideal S1x1024x2048 .f32) (i : Fin 512) (j : Fin 2048) :
    k0_pay3 g w (ix2 i j) = ∑ l : Fin 1024, g (ix2 i l) * w (ix3 0 l j) := by
  pointwise [k0_pay3]

/-- The same, added to the accumulator. -/
theorem pay9_eq (g : Vec Ideal S512x1024 .bf16) (w : Vec Ideal S1x1024x2048 .f32) (a : Vec Ideal S512x2048 .f32) (i : Fin 512) (j : Fin 2048) :
    k0_pay9 g w a (ix2 i j) = a (ix2 i j) + ∑ l : Fin 1024, g (ix2 i l) * w (ix3 0 l j) := by
  pointwise [k0_pay9]

/-- A product over one row block, added to the accumulator. -/
theorem pay19_eq (g : Vec Ideal S512x512 .bf16) (w : Vec Ideal S1x512x2048 .f32) (a : Vec Ideal S512x2048 .f32) (i : Fin 512) (j : Fin 2048) :
    k0_pay19 g w a (ix2 i j) = a (ix2 i j) + ∑ l : Fin 512, g (ix2 i l) * w (ix3 0 l j) := by
  pointwise [k0_pay19]

/-- The same in the last group. -/
theorem pay25_eq (g : Vec Ideal S512x512 .bf16) (w : Vec Ideal S1x512x2048 .f32) (a : Vec Ideal S512x2048 .f32) (i : Fin 512) (j : Fin 2048) :
    k0_pay25 g w a (ix2 i j) = a (ix2 i j) + ∑ l : Fin 512, g (ix2 i l) * w (ix3 0 l j) := by
  pointwise [k0_pay25, k0_pay23]

/-- The last group's store is its product. -/
theorem pay25_pay23 (g : Vec Ideal S512x512 .bf16) (w : Vec Ideal S1x512x2048 .f32) (a : Vec Ideal S512x2048 .f32) :
    k0_pay23 g w a = k0_pay25 g w a := by
  funext i
  pointwise [k0_pay25]

/-- A maximum into one element, from the pattern of `-∞`, is at most `z` exactly when every element is. -/
theorem maxAll_le {s : Shape} {axes : List (Fin s.rank)} (v : FVec Ideal s .f32) (h : s.Reduces axes S1) (hf : FKind.Formats .f32)
    (hacc : (0xFF800000#32 : BitVec 32) = FKind.maximumf.neutral .f32 hf) (j : S1.Idx) (z : EReal) :
    multiReduction .maximumf axes S1 v 0xFF800000#32 h hf hacc j ≤ z ↔ ∀ i, v i ≤ z := by
  rw [multiReduction_maximumf_eq_fold]
  refine (Finset.fold_max_le z).trans ⟨fun H i => H.2 i (Finset.mem_filter.2 ⟨Finset.mem_univ _, funext fun b => Fin.ext ?_⟩),
    fun H => ⟨?_, fun i _ => H i⟩⟩
  · match b with
    | ⟨0, hb⟩ =>
      have h1 := (h.drop i ⟨0, hb⟩).isLt
      have h2 := (j ⟨0, hb⟩).isLt
      have h3 : S1.size ⟨0, hb⟩ = 1 := rfl
      omega
  · have e : (FloatOps.ofBits .f32 0xFF800000#32 : Ideal .f32) = ⊥ := by
      simp [Ideal.ofBits, Ideal.ieee, Ideal.ofBits_def]
    rw [e]
    exact bot_le

/-- The running maximum with a product's absolute values taken in is at most `z` when both are. -/
theorem pay27_le (x : Ideal .f32) (g : Vec Ideal S512x512 .bf16) (w : Vec Ideal S1x512x2048 .f32) (a : Vec Ideal S512x2048 .f32) (z : EReal) :
    (k0_pay27 x g w a : EReal) ≤ z ↔ (x : EReal) ≤ z ∧ ∀ i j, max (k0_pay25 g w a (ix2 i j)) (-k0_pay25 g w a (ix2 i j)) ≤ z := by
  refine max_le_iff.trans (and_congr_right fun _ => (maxAll_le _ _ (.inl rfl) rfl _ z).trans ⟨fun H i j => ?_, fun H i => ?_⟩)
  · have := H (ix3 0 i j)
    rw [← pay25_pay23]
    pointwise at this
    exact this
  · idx_vars i
    rw [← pay25_pay23] at H
    pointwise
    exact H _ _

/-- The first maximum of a device is the running one started at zero, -/
theorem pay24_eq (g : Vec Ideal S512x512 .bf16) (w : Vec Ideal S1x512x2048 .f32) (a : Vec Ideal S512x2048 .f32) :
    k0_pay24 g w a = k0_pay27 (Ideal.ofBits .f32 0x00000000#32) g w a := rfl

/-- and the third and fourth are taken as the second is. -/
theorem pay30_eq (x : Ideal .f32) (g : Vec Ideal S512x512 .bf16) (w : Vec Ideal S1x512x2048 .f32) (a : Vec Ideal S512x2048 .f32) :
    k0_pay30 x g w a = k0_pay27 x g w a := rfl
theorem pay33_eq (x : Ideal .f32) (g : Vec Ideal S512x512 .bf16) (w : Vec Ideal S1x512x2048 .f32) (a : Vec Ideal S512x2048 .f32) :
    k0_pay33 x g w a = k0_pay27 x g w a := rfl

/-- The buffer a device sends its maximum from holds it everywhere. -/
theorem pay35_eq (x : Ideal .f32) (g : Vec Ideal S512x512 .bf16) (w : Vec Ideal S1x512x2048 .f32) (a : Vec Ideal S512x2048 .f32)
    (k : Fin 8) (l : Fin 128) : k0_pay35 x g w a (ix2 k l) = k0_pay33 x g w a := by
  pointwise [k0_pay35]

/-- The zeros the buffer of the maxima is first filled with. -/
theorem pay1_eq (d k : Fin 8) (l : Fin 128) : k0_pay1 (F := Ideal) (ix3 d k l) = (0 : EReal) := by
  pointwise [k0_pay1]

/-- The maximum of a device's own and of all received. -/
theorem pay36_le (x : Ideal .f32) (v : Vec Ideal S8x8x128 .f32) (z : EReal) :
    (k0_pay36 x v : EReal) ≤ z ↔ (∀ d k l, (v (ix3 d k l) : EReal) ≤ z) ∧ (x : EReal) ≤ z := by
  refine max_le_iff.trans (and_congr_left fun _ => (maxAll_le _ _ (.inl rfl) rfl _ z).trans ⟨fun H d k l => ?_, fun H i => ?_⟩)
  · have := H (ix4 0 d k l)
    pointwise at this
    exact this
  · idx_vars i
    pointwise
    exact H _ _ _

/-- The quantised block. -/
theorem pay39_eq (x : Ideal .f32) (v : Vec Ideal S8x8x128 .f32) (a : Vec Ideal S512x2048 .f32) (i : Fin 512) (j : Fin 2048) :
    k0_pay39 x v a (ix2 i j)
      = min (Ideal.ofBits .f32 0x42FE0000#32) (max (Ideal.ofBits .f32 0xC2FE0000#32)
          (Ideal.liftRound Ideal.roundHalfEven (a (ix2 i j) * Ideal.div (Ideal.ofBits .f32 0x42FE0000#32) (k0_pay36 x v))))
        * Ideal.div (k0_pay36 x v) (Ideal.ofBits .f32 0x42FE0000#32) := by
  pointwise [k0_pay39, k0_pay37, k0_pay38]

end Cert.Proof

end
-- ==== Proof.Product.lean ====
/-
# The product on a device

Device `c`'s accumulator after the last group of products is row block `c` of the product of the whole `x` and the weights.
-/
module

public import proofs.«01_k».proof.Proof.Payloads

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The whole arrays. -/
abbrev BigX : Type := (⟨2, ![4096, 4096]⟩ : Shape).Idx → EReal
abbrev BigW : Type := (⟨2, ![4096, 8192]⟩ : Shape).Idx → EReal

/-- Every device holds its column block of `X` and the whole of `W`. -/
def Holds (m : (ℓ : Loc nD τ sig) → Buf (Elt Ideal) ℓ) (X : BigX) (W : BigW) : Prop :=
  ∀ c : Dev nD, m ((c : Thread nD τ).loc main_arg0) = Layout.block ⟨2, ![4096, 512]⟩ ⟨2, ![4096, 4096]⟩ 1 8 c X
    ∧ m ((c : Thread nD τ).loc main_arg1) = W

/-- The product's element at row `r` and column `j`. -/
def prod (X : BigX) (W : BigW) (r : Fin 4096) (j : Fin 8192) : EReal := ∑ k : Fin 4096, X (ix2 r k) * W (ix2 k j)

/-- Row `i` of row block `c`. -/
def rowOf (c : Fin 8) (i : Fin 512) : Fin 4096 := ⟨512 * c.val + i.val, by omega⟩
/-- Column `j` of column block `q`. -/
def colOf (q : Fin 4) (j : Fin 2048) : Fin 8192 := ⟨2048 * q.val + j.val, by omega⟩

variable (m : (ℓ : Loc nD τ sig) → Buf (Elt Ideal) ℓ) (ρ : Dev nD → PrngReg) (X : BigX) (W : BigW)

/-- The term of the product that device `c` meets at place `n` of its gathered buffer. -/
def term (c : Fin 8) (i : Fin 512) (q : Fin 4) (j : Fin 2048) (n : ℕ) : EReal :=
  X (ix2 (rowOf c i) ⟨(512 * c.val + n) % 4096, Nat.mod_lt _ (by decide)⟩)
    * W (ix2 ⟨(512 * c.val + n) % 4096, Nat.mod_lt _ (by decide)⟩ (colOf q j))

variable {m X W}

/-- The rounded `x` of a device is its column block of `X`. -/
theorem Xs_eq (h : Holds m X W) (d : Fin 8) (r : Fin 4096) (l : Fin 512) :
    Xs m ρ d (ix2 r l) = X (ix2 r ⟨512 * d.val + l.val, by omega⟩) := by
  unfold Xs
  rw [pay2_eq]
  have e : Xt m ρ d = m ((d : Thread nD τ).loc main_arg0) := by
    unfold Xt
    funext i
    refine congrArg (m ((d : Thread nD τ).loc main_arg0)) (funext fun a => Fin.ext ?_)
    exact Pipeline.Window.rect_emb_val_of_index_zero win0_0 (0 : Fin 1) a rfl i
  rw [e, (h d).1, Layout.block_apply]
  refine congrArg X (funext fun a => Fin.ext ?_)
  match a with
  | ⟨0, _⟩ => rfl
  | ⟨1, _⟩ => exact congrArg (· + l.val) (Nat.mul_comm _ _)

/-- The place `n` of the gathered buffer. -/
theorem Ga_eq (h : Holds m X W) (c : Fin 8) (i : Fin 512) (n : Fin 4096) :
    Ga m ρ c (ix2 i n) = X (ix2 (rowOf c i) ⟨(512 * c.val + n.val) % 4096, Nat.mod_lt _ (by decide)⟩) := by
  refine (Xs_eq ρ h _ _ _).trans (congrArg X (funext fun a => Fin.ext ?_))
  match a with
  | ⟨0, _⟩ =>
    show (512 * c.val + i.val) % 4096 = 512 * c.val + i.val
    omega
  | ⟨1, _⟩ =>
    show 512 * ((c.val + n.val / 512) % 8) + n.val % 512 = (512 * c.val + n.val) % 4096
    omega

/-- A weight slot's row `l`, at the step whose first row block is `c + t`. -/
theorem Wb_eq (h : Holds m X W) (c : Fin 8) (t : ℕ) (q : Fin 4) (s : Fin 3) (l : Fin 1024) (j : Fin 2048) :
    Wb m c t q (ix3 s l j) = W (ix2 ⟨(512 * c.val + (512 * t + l.val)) % 4096, Nat.mod_lt _ (by decide)⟩ (colOf q j)) := by
  have e : Wt m c = W := (h c).2
  unfold Wb
  rw [e]
  refine congrArg W (funext fun a => Fin.ext ?_)
  match a with
  | ⟨0, _⟩ =>
    show (512 * ((c.val + t + l.val / 512) % 8) + l.val % 512) % 4096 = (512 * c.val + (512 * t + l.val)) % 4096
    omega
  | ⟨1, _⟩ =>
    show (2048 * q.val + j.val) % 8192 = 2048 * q.val + j.val
    omega

/-- The factors of a group of two row blocks: their products are the terms. -/
theorem two_eq (h : Holds m X W) (c : Fin 8) (i : Fin 512) (q : Fin 4) (j : Fin 2048) (g t : ℕ) (ht : 512 * t = 1024 * g) (hg : g < 4) :
    (∑ l : Fin 1024, gTwo m ρ c g (ix2 i l) * wTwo m c t q (ix3 0 l j) : EReal) = ∑ l : Fin 1024, term X W c i q j (1024 * g + l.val) := by
  refine Finset.sum_congr rfl fun l _ => ?_
  have e : (1024 * g + l.val) % 4096 = 1024 * g + l.val := by omega
  have e1 : (gTwo m ρ c g (ix2 i l) : EReal) = X (ix2 (rowOf c i) ⟨(512 * c.val + (1024 * g + l.val)) % 4096, Nat.mod_lt _ (by decide)⟩) := by
    refine (Ga_eq ρ h c i ⟨(1024 * g + l.val) % 4096, _⟩).trans ?_
    simp only [e]
  have e2 : (wTwo m c t q (ix3 0 l j) : EReal) = W (ix2 ⟨(512 * c.val + (1024 * g + l.val)) % 4096, Nat.mod_lt _ (by decide)⟩ (colOf q j)) := by
    refine (Wb_eq h c t q 0 l j).trans ?_
    simp only [ht]
  rw [e1, e2]
  rfl

/-- The same for a group of one row block. -/
theorem one_eq (h : Holds m X W) (c : Fin 8) (i : Fin 512) (q : Fin 4) (j : Fin 2048) (t : ℕ) (ht : t < 8) :
    (∑ l : Fin 512, gOne m ρ c t (ix2 i l) * wOne m c t q (ix3 0 l j) : EReal) = ∑ l : Fin 512, term X W c i q j (512 * t + l.val) := by
  refine Finset.sum_congr rfl fun l _ => ?_
  have e : (512 * t + l.val) % 4096 = 512 * t + l.val := by omega
  have e' : l.val % 1024 = l.val := by omega
  have e1 : (gOne m ρ c t (ix2 i l) : EReal) = X (ix2 (rowOf c i) ⟨(512 * c.val + (512 * t + l.val)) % 4096, Nat.mod_lt _ (by decide)⟩) := by
    refine (Ga_eq ρ h c i ⟨(512 * t + l.val) % 4096, _⟩).trans ?_
    simp only [e]
  have e2 : (wOne m c t q (ix3 0 l j) : EReal) = W (ix2 ⟨(512 * c.val + (512 * t + l.val)) % 4096, Nat.mod_lt _ (by decide)⟩ (colOf q j)) := by
    refine (Wb_eq h c t q 0 ⟨l.val % 1024, _⟩ j).trans ?_
    simp only [e']
  rw [e1, e2]
  rfl

/-- The accumulator after the last group. -/
theorem av_eq (h : Holds m X W) (c : Fin 8) (q : Fin 4) (i : Fin 512) (j : Fin 2048) :
    av m ρ c q 4 (ix2 i j) = prod X W (rowOf c i) (colOf q j) := by
  have e : (av m ρ c q 4 (ix2 i j) : EReal)
      = ((((∑ l : Fin 1024, gTwo m ρ c 0 (ix2 i l) * wTwo m c 0 q (ix3 0 l j)) + ∑ l : Fin 1024, gTwo m ρ c 1 (ix2 i l) * wTwo m c 2 q (ix3 0 l j))
          + ∑ l : Fin 1024, gTwo m ρ c 2 (ix2 i l) * wTwo m c 4 q (ix3 0 l j))
          + ∑ l : Fin 512, gOne m ρ c 6 (ix2 i l) * wOne m c 6 q (ix3 0 l j)) + ∑ l : Fin 512, gOne m ρ c 7 (ix2 i l) * wOne m c 7 q (ix3 0 l j) := by
    rw [show av m ρ c q 4 = k0_pay25 (gOne m ρ c 7) (wOne m c 7 q) (av m ρ c q 3) from rfl, pay25_eq,
      show av m ρ c q 3 = k0_pay19 (gOne m ρ c 6) (wOne m c 6 q) (av m ρ c q 2) from rfl, pay19_eq,
      show av m ρ c q 2 = k0_pay9 (gTwo m ρ c 2) (wTwo m c 4 q) (av m ρ c q 1) from rfl, pay9_eq,
      show av m ρ c q 1 = k0_pay9 (gTwo m ρ c 1) (wTwo m c 2 q) (av m ρ c q 0) from rfl, pay9_eq,
      show av m ρ c q 0 = k0_pay3 (gTwo m ρ c 0) (wTwo m c 0 q) from rfl, pay3_eq]
  rw [e, two_eq ρ h c i q j 0 0 rfl (by decide), two_eq ρ h c i q j 1 2 rfl (by decide), two_eq ρ h c i q j 2 4 rfl (by decide),
    one_eq ρ h c i q j 6 (by decide), one_eq ρ h c i q j 7 (by decide), sum_groups]
  exact sum_rotated (512 * c.val) fun k => X (ix2 (rowOf c i) k) * W (ix2 k (colOf q j))

end Cert.Proof

end
-- ==== Proof.Reference.lean ====
/-
# The reference, element by element

Over the extended reals the reference's result at row `r` and column `j` is the product's element there, divided by the scale, rounded,
clipped and multiplied by the scale; its maximum is at most `z` when every absolute value of the product is.
-/
module

public import proofs.«01_k».proof.Proof.Gen.ReferenceIdeal
public import proofs.«01_k».proof.Proof.ValueMath

@[expose] public section

set_option maxRecDepth 16384

noncomputable section

namespace Cert.Proof

open Cert.ReferenceIdeal Cert.ReferenceIdeal.Gen Idealize.ShloMosaic

variable (X : FVec Ideal S4096x4096 .f32) (W : FVec Ideal S4096x8192 .f32)

/-- The reference's product, -/
def refDot : FVec Ideal S4096x8192 .f32 := Host.dotGeneral dot_S4096x4096_S4096x8192_S4096x8192_1_0_0_1_n_n none X W

/-- the largest absolute value in it, -/
def refMax : FVec Ideal S_ .f32 :=
  Host.reduce FloatOps.maximumf (Host.absf (refDot X W)) (constant S_ .f32 0xFF800000#32) reducesTo_S4096x8192_S_d0_1 h_S_

/-- the scale, -/
def refScale : FVec Ideal S_ .f32 := Host.divf (refMax X W) (constant S_ .f32 0x42FE0000#32)

/-- and the result. -/
def refOut : FVec Ideal S4096x8192 .f32 :=
  mulf (minimumf (broadcastInDim S4096x8192 ![] bcast_S_S4096x8192 (id (constant S_ .f32 0x42FE0000#32)))
      (maximumf (broadcastInDim S4096x8192 ![] bcast_S_S4096x8192 (id (constant S_ .f32 0xC2FE0000#32)))
        (Host.roundeven (Host.divf (refDot X W) (broadcastInDim S4096x8192 ![] bcast_S_S4096x8192 (refScale X W))))))
    (broadcastInDim S4096x8192 ![] bcast_S_S4096x8192 (refScale X W))

/-- The product's element. -/
theorem refDot_eq (r : Fin 4096) (j : Fin 8192) : refDot X W (ix2 r j) = ∑ k : Fin 4096, X (ix2 r k) * W (ix2 k j) := by
  pointwise [refDot]

/-- The largest absolute value is at most `z` when each is. -/
theorem refMax_le (z : EReal) :
    (refMax X W ix0 : EReal) ≤ z ↔ ∀ (r : Fin 4096) (j : Fin 8192), max (refDot X W (ix2 r j)) (-refDot X W (ix2 r j)) ≤ z := by
  have e : (refMax X W ix0 : EReal)
      = (Finset.univ : Finset (Fin 4096 × Fin 8192)).fold max ⊥ fun p => max (refDot X W (ix2 p.1 p.2)) (-refDot X W (ix2 p.1 p.2)) := by
    have e0 : (Ideal.ofBits .f32 0xFF800000#32 : EReal) = ⊥ := by simp [Ideal.ofBits, Ideal.ieee]
    pointwise [refMax]
    rw [e0]
    exact Finset.fold_congr fun p _ => rfl
  rw [e, fold_max_le_iff]
  exact ⟨fun H r j => H (r, j), fun H p => H p.1 p.2⟩

/-- The result's element. -/
theorem refOut_eq (r : Fin 4096) (j : Fin 8192) :
    refOut X W (ix2 r j)
      = min (Ideal.ofBits .f32 0x42FE0000#32) (max (Ideal.ofBits .f32 0xC2FE0000#32)
          (Ideal.liftRound Ideal.roundHalfEven (Ideal.div (refDot X W (ix2 r j)) (Ideal.div (refMax X W ix0) (Ideal.ofBits .f32 0x42FE0000#32)))))
        * Ideal.div (refMax X W ix0) (Ideal.ofBits .f32 0x42FE0000#32) := by
  pointwise [refOut, refScale, id_eq]

end Cert.Proof

end
-- ==== Proof.Value.lean ====
/-
# The result on a device

Device `c`'s result is row block `c` of the reference's: the product's block, quantised with the largest absolute value over all
devices, which is the largest of the whole product.
-/
module

public import proofs.«01_k».proof.Proof.Product
public import proofs.«01_k».proof.Proof.Reference

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {m : (ℓ : Loc nD τ sig) → Buf (Elt Ideal) ℓ} (ρ : Dev nD → PrngReg) {X : BigX} {W : BigW}

/-- A device's maximum is at most `z` when zero and the absolute values of its four column blocks are. -/
theorem mx3_le (h : Holds m X W) (c : Fin 8) (z : EReal) :
    (mx3 m ρ c : EReal) ≤ z ↔ 0 ≤ z ∧ ∀ q i j, max (prod X W (rowOf c i) (colOf q j)) (-prod X W (rowOf c i) (colOf q j)) ≤ z := by
  have key : ∀ q : Fin 4, (∀ i j, max (k0_pay25 (gOne m ρ c 7) (wOne m c 7 q) (av m ρ c q 3) (ix2 i j))
        (-k0_pay25 (gOne m ρ c 7) (wOne m c 7 q) (av m ρ c q 3) (ix2 i j)) ≤ z)
      ↔ ∀ i j, max (prod X W (rowOf c i) (colOf q j)) (-prod X W (rowOf c i) (colOf q j)) ≤ z := fun q =>
    forall_congr' fun i => forall_congr' fun j => by
      rw [← av_eq ρ h c q i j]
      rfl
  unfold mx3 mx2 mx1 mx0
  rw [pay33_eq, pay30_eq, pay24_eq, pay27_le, pay27_le, pay27_le, pay27_le, key, key, key, key, Ideal.ofBits_zero_f32]
  constructor
  · rintro ⟨⟨⟨⟨h0, h1⟩, h2⟩, h3⟩, h4⟩
    refine ⟨h0, fun q => ?_⟩
    match q with
    | 0 => exact h1
    | 1 => exact h2
    | 2 => exact h3
    | 3 => exact h4
  · exact fun H => ⟨⟨⟨⟨H.1, H.2 0⟩, H.2 1⟩, H.2 2⟩, H.2 3⟩

/-- The received maxima at device `d`'s row: zero in the own row. -/
theorem Ar_eq (c d k : Fin 8) (l : Fin 128) : (Ar m ρ c (ix3 d k l) : EReal) = if d.val = c.val then 0 else mx3 m ρ d := by
  show (if d.val = c.val then k0_pay1 (F := Ideal) (ix3 d k l) else As m ρ d (ix2 k l)) = _
  split
  · exact pay1_eq d k l
  · exact pay35_eq _ _ _ _ k l

/-- The maximum over all devices, as each device takes it, is at most `z` when every absolute value of the product is. -/
theorem all_le (h : Holds m X W) (c : Fin 8) (z : EReal) :
    (k0_pay36 (mx3 m ρ c) (Ar m ρ c) : EReal) ≤ z ↔ ∀ (r : Fin 4096) (j : Fin 8192), max (prod X W r j) (-prod X W r j) ≤ z := by
  have row : ∀ r : Fin 4096, ∃ (d : Fin 8) (i : Fin 512), rowOf d i = r := fun r =>
    ⟨⟨r.val / 512, by omega⟩, ⟨r.val % 512, by omega⟩, Fin.ext (by show 512 * (r.val / 512) + r.val % 512 = r.val; omega)⟩
  have col : ∀ j : Fin 8192, ∃ (q : Fin 4) (j' : Fin 2048), colOf q j' = j := fun j =>
    ⟨⟨j.val / 2048, by omega⟩, ⟨j.val % 2048, by omega⟩, Fin.ext (by show 2048 * (j.val / 2048) + j.val % 2048 = j.val; omega)⟩
  rw [pay36_le]
  constructor
  · rintro ⟨H, Hc⟩ r j
    obtain ⟨d, i, rfl⟩ := row r
    obtain ⟨q, j', rfl⟩ := col j
    have Hd : (mx3 m ρ d : EReal) ≤ z := by
      by_cases e : d.val = c.val
      · rw [Fin.ext e]
        exact Hc
      · have := H d 0 0
        rwa [Ar_eq, if_neg e] at this
    exact ((mx3_le ρ h d z).1 Hd).2 q i j'
  · intro H
    have h0 : (0 : EReal) ≤ z := (abs_nonneg_ereal _).trans (H 0 0)
    have Hd : ∀ d : Fin 8, (mx3 m ρ d : EReal) ≤ z := fun d => (mx3_le ρ h d z).2 ⟨h0, fun q i j => H _ _⟩
    refine ⟨fun d k l => ?_, Hd c⟩
    rw [Ar_eq]
    split
    · exact h0
    · exact Hd d

/-- It is the reference's, and not below zero. -/
theorem all_eq (h : Holds m X W) (c : Fin 8) : (k0_pay36 (mx3 m ρ c) (Ar m ρ c) : EReal) = refMax X W ix0 :=
  eq_of_forall_ge_iff fun z => (all_le ρ h c z).trans (by
    rw [refMax_le]
    exact forall_congr' fun r => forall_congr' fun j => by rw [refDot_eq]; rfl)

theorem refMax_nonneg : (0 : EReal) ≤ refMax X W ix0 :=
  (abs_nonneg_ereal _).trans ((refMax_le X W _).1 le_rfl 0 0)

/-- An element of a device's result, by its row and column. -/
theorem Ov_eq (h : Holds m X W) (c : Fin 8) (i : Fin 512) (j : Fin 8192) : Ov m ρ c (ix2 i j) = refOut X W (ix2 (rowOf c i) j) := by
  have e : Ov m ρ c (ix2 i j) = ov m ρ c ⟨j.val / 2048 % 4, Nat.mod_lt _ (by decide)⟩ (ix2 i ⟨j.val % 2048, Nat.mod_lt _ (by decide)⟩) := rfl
  have e2 : colOf ⟨j.val / 2048 % 4, Nat.mod_lt _ (by decide)⟩ ⟨j.val % 2048, Nat.mod_lt _ (by decide)⟩ = j :=
    Fin.ext (by show 2048 * (j.val / 2048 % 4) + j.val % 2048 = j.val; omega)
  rw [e, refOut_eq]
  unfold ov
  rw [pay39_eq, av_eq ρ h, e2, all_eq ρ h c, quantised _ _ _ refMax_nonneg, refDot_eq]
  rfl

/-- Device `c`'s result is block `c` of the reference's. -/
theorem result_block (h : Holds m X W) (c : Fin 8) :
    Ov m ρ c = Layout.block ⟨2, ![512, 8192]⟩ ⟨2, ![4096, 8192]⟩ 0 8 c (refOut X W) := by
  funext x
  obtain ⟨i, j, rfl⟩ : ∃ (i : Fin 512) (j : Fin 8192), x = ix2 i j := ⟨x 0, x 1, eq_ix2 x⟩
  rw [Ov_eq ρ h, Layout.block_apply]
  refine congrArg (refOut X W) (funext fun a => Fin.ext ?_)
  match a with
  | ⟨0, _⟩ => exact congrArg (· + i.val) (Nat.mul_comm _ _)
  | ⟨1, _⟩ => rfl

end Cert.Proof

end
-- ==== Proof.lean ====
/-
# The claims of the kernel

The frames of the kernel at both float instances come from one run (Proof/Run.lean), the frame of the reference from its own run.
The value claim puts the two runs side by side: Proof/Value.lean says that what the kernel leaves on a device is that device's block of the reference's result.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Run
public import proofs.«01_k».proof.Proof.Printed
public import proofs.«01_k».proof.Proof.Value
public import Idealize.ShloMosaic.Adequacy
public import Idealize.ShloMosaic.Init

@[expose] public section

noncomputable section

namespace Cert.Proof

open Idealize.ShloMosaic Idealize.SL.Sem

/-- The kernel as printed ends, its arguments unchanged, every counter at zero. -/
theorem frame_kernel : Cert.quiescent_Kernel := fun m ρ _ =>
  (θ_run Cert.Kernel.defs _ _).mono (fun _ h => ⟨fun c => ⟨(h.1 c).1, (h.1 c).2.1⟩, h.2⟩) (run_printed m ρ)

/-- The same over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference ends, its arguments unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that are the devices' parts of the reference's, every device ends with its block of the reference's result. -/
theorem value : Cert.algebraic_KernelIdeal_ReferenceIdeal := fun m ρ m' ρ' _ h =>
  ⟨_, (θ_run Cert.KernelIdeal.defs _ _).mono
      (fun _ hr c => ⟨((hr.1 c).2.2).trans (result_block ρ h c), (hr.1 c).1, (hr.1 c).2.1⟩) (run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
